-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![1024, 256]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S16x32x256 : Shape := ⟨3, ![16, 32, 256]⟩
abbrev S16 : Shape := ⟨1, ![16]⟩
abbrev S_ : Shape := ⟨0, ![]⟩
abbrev S1 : Shape := ⟨1, ![1]⟩
abbrev S1x32x256 : Shape := ⟨3, ![1, 32, 256]⟩
abbrev S32x256 : Shape := ⟨2, ![32, 256]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S16x32x256, .f32⟩
  | .local _ .vmem, ⟨3, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_9 : BitVec 32 := 1#32
  let v10 : BitVec 32 := Scalar.muli v3 c1_i32_9
  let v11 : BitVec 32 := Scalar.addi c0_i32_10 v10
  v11.toNat
def k0_dev4 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_18 : BitVec 32 := 1#32
  let v19 : BitVec 32 := Scalar.muli v3 c1_i32_18
  let v20 : BitVec 32 := Scalar.addi c0_i32_19 v19
  v20.toNat
def k0_dev5 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_26 : BitVec 32 := 1#32
  let v28 : BitVec 32 := Scalar.muli v3 c1_i32_26
  let v29 : BitVec 32 := Scalar.addi c0_i32_27 v28
  v29.toNat
def k0_dev6 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_34 : BitVec 32 := 1#32
  let v37 : BitVec 32 := Scalar.muli v3 c1_i32_34
  let v38 : BitVec 32 := Scalar.addi c0_i32_35 v37
  v38.toNat
def k0_dev7 (d0 : Dev nD) : Nat :=
  let c0_i32_43 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_42 : BitVec 32 := 1#32
  let v46 : BitVec 32 := Scalar.muli v4 c1_i32_42
  let v47 : BitVec 32 := Scalar.addi c0_i32_43 v46
  v47.toNat
def k0_dev8 (d0 : Dev nD) : Nat :=
  let c0_i32_50 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_49 : BitVec 32 := 1#32
  let v55 : BitVec 32 := Scalar.muli v4 c1_i32_49
  let v56 : BitVec 32 := Scalar.addi c0_i32_50 v55
  v56.toNat
def k0_dev9 (d0 : Dev nD) : Nat :=
  let c0_i32_57 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_56 : BitVec 32 := 1#32
  let v64 : BitVec 32 := Scalar.muli v4 c1_i32_56
  let v65 : BitVec 32 := Scalar.addi c0_i32_57 v64
  v65.toNat
def k0_dev10 (d0 : Dev nD) : Nat :=
  let c0_i32_64 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_63 : BitVec 32 := 1#32
  let v73 : BitVec 32 := Scalar.muli v4 c1_i32_63
  let v74 : BitVec 32 := Scalar.addi c0_i32_64 v73
  v74.toNat
def k0_dev11 (d0 : Dev nD) : Nat :=
  let c0_i32_86 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_85 : BitVec 32 := 1#32
  let v97 : BitVec 32 := Scalar.muli v4 c1_i32_85
  let v98 : BitVec 32 := Scalar.addi c0_i32_86 v97
  v98.toNat
def k0_dev12 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_107 : BitVec 32 := 1#32
  let v121 : BitVec 32 := Scalar.muli v3 c1_i32_107
  let v122 : BitVec 32 := Scalar.addi c0_i32_108 v121
  v122.toNat
def k0_dev13 (d0 : Dev nD) : Nat :=
  let c0_i32_130 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_129 : BitVec 32 := 1#32
  let v145 : BitVec 32 := Scalar.muli v4 c1_i32_129
  let v146 : BitVec 32 := Scalar.addi c0_i32_130 v145
  v146.toNat
def k0_dev14 (d0 : Dev nD) : Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_151 : BitVec 32 := 1#32
  let v169 : BitVec 32 := Scalar.muli v3 c1_i32_151
  let v170 : BitVec 32 := Scalar.addi c0_i32_152 v169
  v170.toNat
def k0_dev15 (d0 : Dev nD) : Nat :=
  let c0_i32_174 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_173 : BitVec 32 := 1#32
  let v193 : BitVec 32 := Scalar.muli v4 c1_i32_173
  let v194 : BitVec 32 := Scalar.addi c0_i32_174 v193
  v194.toNat
def k0_dev16 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_195 : BitVec 32 := 1#32
  let v217 : BitVec 32 := Scalar.muli v3 c1_i32_195
  let v218 : BitVec 32 := Scalar.addi c0_i32_196 v217
  v218.toNat
def k0_dev17 (d0 : Dev nD) : Nat :=
  let c0_i32_218 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_217 : BitVec 32 := 1#32
  let v241 : BitVec 32 := Scalar.muli v4 c1_i32_217
  let v242 : BitVec 32 := Scalar.addi c0_i32_218 v241
  v242.toNat
def k0_dev18 (d0 : Dev nD) : Nat :=
  let c0_i32_240 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_239 : BitVec 32 := 1#32
  let v265 : BitVec 32 := Scalar.muli v3 c1_i32_239
  let v266 : BitVec 32 := Scalar.addi c0_i32_240 v265
  v266.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x256 : Shape := ⟨2, ![1024, 256]⟩
abbrev S4x256x256 : Shape := ⟨3, ![4, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S4x256x256, .f32⟩
  | .hbm, ⟨2, _⟩ => ⟨S_, .f32⟩
  | .hbm, ⟨3, _⟩ => ⟨S256x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Protocol.lean ====
/-
# The all-reduce's protocol

Four devices, each with one 256 × 256 block of `x`, sum the four blocks in two exchanges. The block is cut into eight
chunks of 32 rows. In the first exchange chunk `i` is swapped with one partner and added; in the second the sum of the
pair is swapped with the other partner and added. Chunks 0–3 meet the partner `pa` first and `pb` second, chunks 4–7 the
other way round. A transfer lands in a slot of its own: slot `i` for chunk `i`'s first exchange, slot `8 + i` for its second.

This module states what the devices hand each other: the partners, the slots and their buffers, the contents every
buffer piece ends with, the schedule of signals and credits, and the order on semaphores that rules out deadlock.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.AllReduce

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy beside the protocol's, whose duties are named by `Bool` -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## Partners and slots -/

set_option backward.proofsInPublic true in
/-- The partner across the lowest bit of the device number. -/
def pa (c : Dev nD) : Dev nD := ⟨c.val ^^^ 1, (by decide : ∀ c : Fin 4, c.val ^^^ 1 < 4) c⟩
set_option backward.proofsInPublic true in
/-- The partner opposite in the row of four. -/
def pb (c : Dev nD) : Dev nD := ⟨3 - c.val, (by decide : ∀ c : Fin 4, 3 - c.val < 4) c⟩

theorem pa_pa (c : Dev nD) : pa (pa c) = c := by revert c; decide
theorem pb_pb (c : Dev nD) : pb (pb c) = c := by revert c; decide
theorem pa_ne_pb (c : Dev nD) : pa c ≠ pb c := by revert c; decide

def pairA : Dev nD ≃ Dev nD := ⟨pa, pa, pa_pa, pa_pa⟩
def pairB : Dev nD ≃ Dev nD := ⟨pb, pb, pb_pb, pb_pb⟩

/-- Which partner slot `j` is exchanged with: `pb` for slots 4–11, `pa` for the others. -/
def side (j : Fin 16) : Bool := decide (4 ≤ j.val ∧ j.val < 12)
/-- The device slot `j` of device `c` is exchanged with. -/
def dst (c : Dev nD) (j : Fin 16) : Dev nD := if side j then pb c else pa c

theorem dst_dst (c : Dev nD) (j : Fin 16) : dst (dst c j) j = c := by revert c j; decide
def pairOf (j : Fin 16) : Dev nD ≃ Dev nD := ⟨fun c => dst c j, fun c => dst c j, fun c => dst_dst c j, fun c => dst_dst c j⟩

set_option backward.proofsInPublic true in
/-- The slot of chunk `i`'s first exchange. -/
def lo (i : Fin 8) : Fin 16 := ⟨i.val, by omega⟩
set_option backward.proofsInPublic true in
/-- The slot of chunk `i`'s second exchange. -/
def hi (i : Fin 8) : Fin 16 := ⟨8 + i.val, by omega⟩

/-- The addresses the kernel computes from its device number, in program order of their first use. -/
theorem dev1 (c : Dev nD) : (⟨k0_dev1 c, k0_dev1_lt c⟩ : Dev nD) = pa c := by revert c; decide +kernel
theorem dev2 (c : Dev nD) : (⟨k0_dev2 c, k0_dev2_lt c⟩ : Dev nD) = pb c := by revert c; decide +kernel
theorem dev3 (c : Dev nD) : (⟨k0_dev3 c, k0_dev3_lt c⟩ : Dev nD) = dst c (lo 0) := by revert c; decide +kernel
theorem dev4 (c : Dev nD) : (⟨k0_dev4 c, k0_dev4_lt c⟩ : Dev nD) = dst c (lo 1) := by revert c; decide +kernel
theorem dev5 (c : Dev nD) : (⟨k0_dev5 c, k0_dev5_lt c⟩ : Dev nD) = dst c (lo 2) := by revert c; decide +kernel
theorem dev6 (c : Dev nD) : (⟨k0_dev6 c, k0_dev6_lt c⟩ : Dev nD) = dst c (lo 3) := by revert c; decide +kernel
theorem dev7 (c : Dev nD) : (⟨k0_dev7 c, k0_dev7_lt c⟩ : Dev nD) = dst c (lo 4) := by revert c; decide +kernel
theorem dev8 (c : Dev nD) : (⟨k0_dev8 c, k0_dev8_lt c⟩ : Dev nD) = dst c (lo 5) := by revert c; decide +kernel
theorem dev9 (c : Dev nD) : (⟨k0_dev9 c, k0_dev9_lt c⟩ : Dev nD) = dst c (lo 6) := by revert c; decide +kernel
theorem dev10 (c : Dev nD) : (⟨k0_dev10 c, k0_dev10_lt c⟩ : Dev nD) = dst c (lo 7) := by revert c; decide +kernel
theorem dev11 (c : Dev nD) : (⟨k0_dev11 c, k0_dev11_lt c⟩ : Dev nD) = dst c (hi 0) := by revert c; decide +kernel
theorem dev12 (c : Dev nD) : (⟨k0_dev12 c, k0_dev12_lt c⟩ : Dev nD) = dst c (hi 4) := by revert c; decide +kernel
theorem dev13 (c : Dev nD) : (⟨k0_dev13 c, k0_dev13_lt c⟩ : Dev nD) = dst c (hi 1) := by revert c; decide +kernel
theorem dev14 (c : Dev nD) : (⟨k0_dev14 c, k0_dev14_lt c⟩ : Dev nD) = dst c (hi 5) := by revert c; decide +kernel
theorem dev15 (c : Dev nD) : (⟨k0_dev15 c, k0_dev15_lt c⟩ : Dev nD) = dst c (hi 2) := by revert c; decide +kernel
theorem dev16 (c : Dev nD) : (⟨k0_dev16 c, k0_dev16_lt c⟩ : Dev nD) = dst c (hi 6) := by revert c; decide +kernel
theorem dev17 (c : Dev nD) : (⟨k0_dev17 c, k0_dev17_lt c⟩ : Dev nD) = dst c (hi 3) := by revert c; decide +kernel
theorem dev18 (c : Dev nD) : (⟨k0_dev18 c, k0_dev18_lt c⟩ : Dev nD) = dst c (hi 7) := by revert c; decide +kernel

/-! ## The buffers: `x`, the result, the landing slots, the pair sums -/

abbrev xM : Memref sig .tc .vmem S256x256 .f32 := Memref.whole cc0_stg0_0
abbrev oM : Memref sig .tc .vmem S256x256 .f32 := Memref.whole cc0_stg1_0
abbrev rM : Memref sig .tc .vmem S16x32x256 .f32 := Memref.whole cc0_scratch0
abbrev pM : Memref sig .tc .vmem S256x256 .f32 := Memref.whole cc0_scratch1

/-- The rectangle of the 32 rows from row `a` on. -/
abbrev rowAt (a : ℕ) (h : ∀ x, (![a, 0] : Fin 2 → ℕ) x + S32x256.size x ≤ S256x256.size x) : Rect S256x256 :=
  Rect.unit (s := S256x256) ![a, 0] S32x256.size h
/-- The rectangle of landing slot `s`. -/
abbrev slotAt (s : ℕ) (h : ∀ x, (![s, 0, 0] : Fin 3 → ℕ) x + S1x32x256.size x ≤ S16x32x256.size x) : Rect S16x32x256 :=
  Rect.unit (s := S16x32x256) ![s, 0, 0] S1x32x256.size h

/-- The rows from `a` on of a buffer, as the kernel slices them. -/
abbrev rowM (b : Memref sig .tc .vmem S256x256 .f32) (a : ℕ) (h : ∀ x, (![a, 0] : Fin 2 → ℕ) x + S32x256.size x ≤ S256x256.size x) :
    Memref sig .tc .vmem S32x256 .f32 := b.slice (rowAt a h) (fun _ => rfl)
/-- Landing slot `s`, as the kernel slices it. -/
abbrev slotM (s : ℕ) (h : ∀ x, (![s, 0, 0] : Fin 3 → ℕ) x + S1x32x256.size x ≤ S16x32x256.size x) :
    Memref sig .tc .vmem S32x256 .f32 := (rM.slice (slotAt s h) (fun _ => rfl)).squeeze S32x256 squeezes_S1x32x256_S32x256

theorem row_inb (i : Fin 8) : ∀ x, (![32 * i.val, 0] : Fin 2 → ℕ) x + S32x256.size x ≤ S256x256.size x := by revert i; decide
theorem slot_inb (j : Fin 16) : ∀ x, (![j.val, 0, 0] : Fin 3 → ℕ) x + S1x32x256.size x ≤ S16x32x256.size x := by revert j; decide

/-- The places of chunk `i`. -/
def rows (i : Fin 8) : Finset S256x256.Idx := (rowAt (32 * i.val) (row_inb i)).set
/-- The places of landing slot `j`. -/
def slots (j : Fin 16) : Finset S16x32x256.Idx := (slotAt j.val (slot_inb j)).set

set_option backward.proofsInPublic true in
/-- The chunk a place of the block is in. -/
def chunk (y : S256x256.Idx) : Fin 8 := ⟨(y 0).val / 32, by have := idx2_lt0 y; omega⟩

theorem mem_rows {i : Fin 8} {y : S256x256.Idx} : y ∈ rows i ↔ chunk y = i := by
  unfold rows rowAt
  rw [Rect.mem_set_unit, Fin.forall_fin_two]
  have h0 := idx2_lt0 y
  have h1 := idx2_lt1 y
  constructor
  · rintro ⟨h, -⟩
    have h' : 32 * i.val ≤ (y 0).val ∧ (y 0).val < 32 * i.val + 32 := h
    refine Fin.ext ?_
    show (y 0).val / 32 = i.val
    omega
  · rintro rfl
    refine ⟨?_, ?_⟩
    · show 32 * ((y 0).val / 32) ≤ (y 0).val ∧ (y 0).val < 32 * ((y 0).val / 32) + 32
      omega
    · show 0 ≤ (y 1).val ∧ (y 1).val < 0 + 256
      omega

theorem mem_slots {j : Fin 16} {z : S16x32x256.Idx} : z ∈ slots j ↔ z 0 = j := by
  unfold slots slotAt
  rw [Rect.mem_set_unit]
  constructor
  · intro h
    have h' : j.val ≤ (z 0).val ∧ (z 0).val < j.val + 1 := h 0
    exact Fin.ext (by omega)
  · rintro rfl a
    match a with
    | ⟨0, _⟩ => show (z 0).val ≤ (z 0).val ∧ (z 0).val < (z 0).val + 1; omega
    | ⟨1, _⟩ => show 0 ≤ (z 1).val ∧ (z 1).val < 0 + 32; have : (z 1).val < 32 := (z 1).isLt; omega
    | ⟨2, _⟩ => show 0 ≤ (z 2).val ∧ (z 2).val < 0 + 256; have : (z 2).val < 256 := (z 2).isLt; omega

theorem rows_cover : Finset.univ.biUnion rows = (Finset.univ : Finset S256x256.Idx) := by
  ext y; simp only [Finset.mem_biUnion, Finset.mem_univ, true_and, iff_true]; exact ⟨chunk y, mem_rows.mpr rfl⟩
theorem rows_disjoint : ∀ i ∈ (Finset.univ : Finset (Fin 8)), ∀ j ∈ (Finset.univ : Finset (Fin 8)), i ≠ j → Disjoint (rows i) (rows j) :=
  fun i _ j _ h => Finset.disjoint_left.mpr fun y hi hj => h ((mem_rows.mp hi).symm.trans (mem_rows.mp hj))
theorem slots_cover : Finset.univ.biUnion slots = (Finset.univ : Finset S16x32x256.Idx) := by
  ext z; simp only [Finset.mem_biUnion, Finset.mem_univ, true_and, iff_true]; exact ⟨z 0, mem_slots.mpr rfl⟩
theorem slots_disjoint : ∀ i ∈ (Finset.univ : Finset (Fin 16)), ∀ j ∈ (Finset.univ : Finset (Fin 16)), i ≠ j → Disjoint (slots i) (slots j) :=
  fun i _ j _ h => Finset.disjoint_left.mpr fun y hi hj => h ((mem_slots.mp hi).symm.trans (mem_slots.mp hj))

set_option backward.proofsInPublic true in
/-- The place of the block that row `x 0`, column `x 1` of chunk `i` is. -/
def rowIx (i : Fin 8) (x : S32x256.Idx) : S256x256.Idx := ix2 (n0 := 256) (n1 := 256) ⟨32 * i.val + (x 0).val, by have := idx2_lt0 x; omega⟩ (x 1)
/-- The place of the landing buffer that row `x 0`, column `x 1` of slot `j` is. -/
def slotIx (j : Fin 16) (x : S32x256.Idx) : S16x32x256.Idx := ix3 (n0 := 16) (n1 := 32) (n2 := 256) j (x 0) (x 1)

theorem chunk_rowIx (i : Fin 8) (x : S32x256.Idx) : chunk (rowIx i x) = i := by
  refine Fin.ext ?_
  have := idx2_lt0 x
  show (32 * i.val + (x 0).val) / 32 = i.val
  omega

theorem rowAt_emb (i : Fin 8) (x : S32x256.Idx) : (rowAt (32 * i.val) (row_inb i)).emb x = rowIx i x := by
  funext a
  match a with
  | ⟨0, _⟩ => exact Fin.ext (by show 32 * i.val + 1 * (x 0).val = 32 * i.val + (x 0).val; omega)
  | ⟨1, _⟩ => exact Fin.ext (by show 0 + 1 * (x 1).val = (x 1).val; omega)

theorem slotAt_emb (j : Fin 16) (x : S32x256.Idx) :
    (slotAt j.val (slot_inb j)).emb (Shape.reshapeEquiv squeezes_S1x32x256_S32x256.numel_eq x) = slotIx j x := by
  rw [show Shape.reshapeEquiv squeezes_S1x32x256_S32x256.numel_eq x = Fin.cons ⟨0, Nat.one_pos⟩ x from Shape.reshapeEquiv_cons_one _ x]
  funext a
  match a with
  | ⟨0, _⟩ => exact Fin.ext (by show j.val + 1 * 0 = j.val; omega)
  | ⟨1, _⟩ => exact Fin.ext (by show 0 + 1 * (x 0).val = (x 0).val; omega)
  | ⟨2, _⟩ => exact Fin.ext (by show 0 + 1 * (x 1).val = (x 1).val; omega)

theorem exists_rowIx {i : Fin 8} {y : S256x256.Idx} (h : y ∈ rows i) : ∃ x, y = rowIx i x := by
  have h1 : y ∈ Finset.univ.map (rowAt (32 * i.val) (row_inb i)).emb := by rw [Rect.map_emb_univ]; exact h
  obtain ⟨x, -, hx⟩ := Finset.mem_map.mp h1
  exact ⟨x, by rw [← hx]; exact rowAt_emb i x⟩
theorem exists_slotIx {j : Fin 16} {z : S16x32x256.Idx} (h : z ∈ slots j) : ∃ x, z = slotIx j x := by
  refine ⟨ix2 (n0 := 32) (n1 := 256) (z 1) (z 2), ?_⟩
  have h0 := mem_slots.mp h
  funext a
  match a with
  | ⟨0, _⟩ => exact h0
  | ⟨1, _⟩ => rfl
  | ⟨2, _⟩ => rfl

theorem rowM_set_x (i : Fin 8) : (rowM xM (32 * i.val) (row_inb i)).view.set = rows i := View.set_slice_whole _ _
theorem rowM_set_p (i : Fin 8) : (rowM pM (32 * i.val) (row_inb i)).view.set = rows i := View.set_slice_whole _ _
theorem slotM_set (j : Fin 16) : (slotM j.val (slot_inb j)).view.set = slots j := by
  show ((View.whole cc0_scratch0).slice (slotAt j.val (slot_inb j)) |>.reshape S32x256 _).set = _
  rw [View.set_reshape]; exact View.set_slice_whole _ _

/-! ## Semaphores and cells -/

/-- The runtime's barrier semaphore. -/
abbrev barS : Sem sig := (SemArray.scalar (sig.barrier 0 rfl) : Sems sig S_).sem
set_option backward.proofsInPublic true in
/-- The semaphore that counts slot `j`'s outgoing transfer. -/
def sendS (j : Fin 16) : DmaSem sig := (⟨2 + j.val, by omega⟩ : Fin 34)
set_option backward.proofsInPublic true in
/-- The semaphore that counts slot `j`'s incoming transfer. -/
def recvS (j : Fin 16) : DmaSem sig := (⟨18 + j.val, by omega⟩ : Fin 34)

theorem sem_inb (j : Fin 16) : ∀ x, (![j.val] : Fin 1 → ℕ) x + S1.size x ≤ S16.size x := by revert j; decide
theorem send_sem (j : Fin 16) :
    ((cc0_scratch2.slice (Rect.unit (s := S16) ![j.val] S1.size (sem_inb j))).squeeze S_ squeezes_S1_S_).sem = sendS j := by
  revert j; decide +kernel
theorem recv_sem (j : Fin 16) :
    ((cc0_scratch3.slice (Rect.unit (s := S16) ![j.val] S1.size (sem_inb j))).squeeze S_ squeezes_S1_S_).sem = recvS j := by
  revert j; decide +kernel

abbrev barCell (c : Dev nD) : GSem nD τ sig := ((c : Thread nD τ), .reg barS)
abbrev sendCell (c : Dev nD) (j : Fin 16) : GSem nD τ sig := ((c : Thread nD τ), .dma (sendS j))
abbrev recvCell (c : Dev nD) (j : Fin 16) : GSem nD τ sig := ((c : Thread nD τ), .dma (recvS j))

/-- The kernel's own semaphores: the sixteen outgoing ones, the sixteen incoming ones. -/
abbrev osem : Fin 16 ⊕ Fin 16 → SemLoc sig := fun | .inl j => .dma (sendS j) | .inr j => .dma (recvS j)
/-- All the protocol's semaphores: the barrier's and those. -/
abbrev CK : Type := Unit ⊕ (Fin 16 ⊕ Fin 16)
abbrev csem : CK → SemLoc sig := fun | .inl _ => .reg barS | .inr k => osem k
abbrev kcell (ck : Dev nD × CK) : GSem nD τ sig := ((ck.1 : Thread nD τ), csem ck.2)

/-- The credit one chunk's transfer carries. -/
abbrev N : ℕ := (slotM 0 (slot_inb 0)).view.dmaCredit
theorem N_pos : 0 < N := View.dmaCredit_pos _ (by decide)

/-! ## Contents -/

/-- Device `c`'s block of `x`. -/
def X (c : Dev nD) : (cc0_stg0_0 : Ref sig .tc).ty.Contents (Elt F) :=
  (win0_0.blk (0 : Fin 1)).view.read (Elt F) ((s₀ m ρ).mem ((c : Thread nD τ).loc main_arg0))
/-- The sums after the first exchange: `c`'s own block plus its first partner's, chunk by chunk. -/
def pairC (c : Dev nD) : (cc0_scratch1 : Ref sig .tc).ty.Contents (Elt F) :=
  fun y : S256x256.Idx => FloatOps.addf (F := F) (φ := .f32) (X m ρ c y) (X m ρ (dst c (lo (chunk y))) y)
/-- The result: `c`'s sums plus its second partner's. -/
def outC (c : Dev nD) : (cc0_stg1_0 : Ref sig .tc).ty.Contents (Elt F) :=
  fun y : S256x256.Idx => FloatOps.addf (F := F) (φ := .f32) (pairC m ρ c y) (pairC m ρ (dst c (hi (chunk y))) y)

set_option backward.proofsInPublic true in
/-- The chunk slot `j` carries. -/
def chunkOf (j : Fin 16) : Fin 8 := ⟨j.val % 8, Nat.mod_lt _ (by decide)⟩
theorem chunkOf_lo (i : Fin 8) : chunkOf (lo i) = i := by revert i; decide
theorem chunkOf_hi (i : Fin 8) : chunkOf (hi i) = i := by revert i; decide
theorem lo_lt (i : Fin 8) : (lo i).val < 8 := i.isLt
theorem hi_not_lt (i : Fin 8) : ¬ (hi i).val < 8 := by show ¬ 8 + i.val < 8; omega

/-- What the landing slots of device `c` end with: of slot `j`, the partner's rows of the chunk it carries. -/
def recvC (c : Dev nD) : (cc0_scratch0 : Ref sig .tc).ty.Contents (Elt F) :=
  fun z : S16x32x256.Idx =>
    if (z 0 : Fin 16).val < 8 then X m ρ (dst c (z 0)) (rowIx (chunkOf (z 0)) (ix2 (n0 := 32) (n1 := 256) (z 1) (z 2)))
    else pairC m ρ (dst c (z 0)) (rowIx (chunkOf (z 0)) (ix2 (n0 := 32) (n1 := 256) (z 1) (z 2)))

omit [FloatOps F] in
theorem ix2_eta (x : S32x256.Idx) : ix2 (n0 := 32) (n1 := 256) (x 0) (x 1) = x := (eq_ix2 x).symm

theorem recvC_lo (c : Dev nD) (i : Fin 8) (x : S32x256.Idx) : recvC m ρ c (slotIx (lo i) x) = X m ρ (dst c (lo i)) (rowIx i x) := by
  show (if (lo i).val < 8 then X m ρ (dst c (lo i)) (rowIx (chunkOf (lo i)) (ix2 (n0 := 32) (n1 := 256) (x 0) (x 1)))
    else pairC m ρ (dst c (lo i)) (rowIx (chunkOf (lo i)) (ix2 (n0 := 32) (n1 := 256) (x 0) (x 1)))) = _
  rw [if_pos (lo_lt i), chunkOf_lo, ix2_eta]
theorem recvC_hi (c : Dev nD) (i : Fin 8) (x : S32x256.Idx) : recvC m ρ c (slotIx (hi i) x) = pairC m ρ (dst c (hi i)) (rowIx i x) := by
  show (if (hi i).val < 8 then X m ρ (dst c (hi i)) (rowIx (chunkOf (hi i)) (ix2 (n0 := 32) (n1 := 256) (x 0) (x 1)))
    else pairC m ρ (dst c (hi i)) (rowIx (chunkOf (hi i)) (ix2 (n0 := 32) (n1 := 256) (x 0) (x 1)))) = _
  rw [if_neg (hi_not_lt i), chunkOf_hi, ix2_eta]
theorem pairC_row (c : Dev nD) (i : Fin 8) (x : S32x256.Idx) :
    pairC m ρ c (rowIx i x) = FloatOps.addf (F := F) (φ := .f32) (X m ρ c (rowIx i x)) (X m ρ (dst c (lo i)) (rowIx i x)) := by
  show FloatOps.addf (F := F) (φ := .f32) _ (X m ρ (dst c (lo (chunk (rowIx i x)))) (rowIx i x)) = _
  rw [chunk_rowIx]
theorem outC_row (c : Dev nD) (i : Fin 8) (x : S32x256.Idx) :
    outC m ρ c (rowIx i x) = FloatOps.addf (F := F) (φ := .f32) (pairC m ρ c (rowIx i x)) (pairC m ρ (dst c (hi i)) (rowIx i x)) := by
  show FloatOps.addf (F := F) (φ := .f32) _ (pairC m ρ (dst c (hi (chunk (rowIx i x)))) (rowIx i x)) = _
  rw [chunk_rowIx]

/-! ## The buffer pieces -/

/-- Chunk `i` of device `c`'s block of `x`, at share `q`. -/
def xPts (c : Dev nD) (i : Fin 8) (q : PosShare TreeShare) : sProp 𝕄 :=
  ((c : Thread nD τ).loc cc0_stg0_0) ↦[rows i]{q} X m ρ c
/-- Chunk `i` of the pair sums' buffer holding `f`. -/
def pPts (c : Dev nD) (i : Fin 8) (q : PosShare TreeShare) (f : (cc0_scratch1 : Ref sig .tc).ty.Contents (Elt F)) : sProp 𝕄 :=
  ((c : Thread nD τ).loc cc0_scratch1) ↦[rows i]{q} f
/-- Chunk `i` of the result's buffer holding `f`. -/
def oPts (c : Dev nD) (i : Fin 8) (f : (cc0_stg1_0 : Ref sig .tc).ty.Contents (Elt F)) : sProp 𝕄 :=
  ((c : Thread nD τ).loc cc0_stg1_0) ↦[rows i]{fullShare} f
/-- Landing slot `j` holding `f`. -/
def sPts (c : Dev nD) (j : Fin 16) (f : (cc0_scratch0 : Ref sig .tc).ty.Contents (Elt F)) : sProp 𝕄 :=
  ((c : Thread nD τ).loc cc0_scratch0) ↦[slots j]{fullShare} f

omit [FloatOps F] in
instance xPts_storable (c : Dev nD) (i q) : BI.Storable (upEmb : UEmb _ 𝕄) (xPts (F := F) m ρ c i q) := by unfold xPts; infer_instance
omit [FloatOps F] in
instance pPts_storable (c : Dev nD) (i q f) : BI.Storable (upEmb : UEmb _ 𝕄) (pPts (F := F) c i q f) := by unfold pPts; infer_instance
omit [FloatOps F] in
instance sPts_storable (c : Dev nD) (j f) : BI.Storable (upEmb : UEmb _ 𝕄) (sPts (F := F) c j f) := by unfold sPts; infer_instance

omit [FloatOps F] in
theorem sPts_congr (c : Dev nD) (j : Fin 16) {f g : (cc0_scratch0 : Ref sig .tc).ty.Contents (Elt F)} (h : ∀ x, f (slotIx j x) = g (slotIx j x)) :
    sPts (F := F) c j f = sPts c j g :=
  pointsTo_congr fun z hz => by obtain ⟨x, rfl⟩ := exists_slotIx hz; exact h x
omit [FloatOps F] in
theorem pPts_congr (c : Dev nD) (i : Fin 8) (q) {f g : (cc0_scratch1 : Ref sig .tc).ty.Contents (Elt F)} (h : ∀ x, f (rowIx i x) = g (rowIx i x)) :
    pPts (F := F) c i q f = pPts c i q g :=
  pointsTo_congr fun z hz => by obtain ⟨x, rfl⟩ := exists_rowIx hz; exact h x
omit [FloatOps F] in
theorem oPts_congr (c : Dev nD) (i : Fin 8) {f g : (cc0_stg1_0 : Ref sig .tc).ty.Contents (Elt F)} (h : ∀ x, f (rowIx i x) = g (rowIx i x)) :
    oPts (F := F) c i f = oPts c i g :=
  pointsTo_congr fun z hz => by obtain ⟨x, rfl⟩ := exists_rowIx hz; exact h x

/-! ## The schedule: one round -/

/-- What the barrier signal named `d` brings device `c`: of the partner that side, the landing slots `c` is to fill. -/
def barPay (c : Dev nD) (d : Bool) : sProp 𝕄 :=
  bigSep (Finset.univ.filter fun j => side j = d) fun j => iprop(∃ f, sPts (F := F) (dst c j) j f)
/-- What the completion of slot `j`'s outgoing transfer gives back: the half share of the rows it read. -/
def sendPay (c : Dev nD) (j : Fin 16) : sProp 𝕄 :=
  if j.val < 8 then xPts m ρ c (chunkOf j) fullShare.left else pPts c (chunkOf j) fullShare.left (pairC m ρ c)
/-- What the arrival of slot `j`'s incoming transfer brings: the slot, filled. -/
def recvPay (c : Dev nD) (j : Fin 16) : sProp 𝕄 := sPts c j (recvC m ρ c)

set_option backward.proofsInPublic true in
/-- The slot a transfer semaphore belongs to. -/
def slotOf (k : DmaSem sig) : Fin 16 := ⟨((k : Fin 34).val + 14) % 16, Nat.mod_lt _ (by decide)⟩
theorem slotOf_send (j : Fin 16) : slotOf (sendS j) = j := by revert j; decide
theorem slotOf_recv (j : Fin 16) : slotOf (recvS j) = j := by revert j; decide

/-- Round 0 is the only one: a barrier takes a signal of one unit from each partner, a transfer semaphore one chunk's credit. -/
def sched : Rounds.Schedule (GSem nD τ sig) Bool 𝕄 where
  duties g r := if r = 0 ∧ g.1.2 = .tc then (match g.2 with
    | .reg _ => Finset.univ
    | .dma k => if 2 ≤ (k : Fin 34).val then {false} else ∅) else ∅
  unitless _ := False
  amount g _ _ := match g.2 with
    | .reg _ => 1
    | .dma _ => N
  payload g _ d := match g.2 with
    | .reg _ => barPay g.1.1 d
    | .dma k => if (k : Fin 34).val < 18 then sendPay m ρ g.1.1 (slotOf k) else recvPay m ρ g.1.1 (slotOf k)
  amount_pos g _ _ _ := by
    obtain ⟨_, sm⟩ := g
    cases sm
    · exact Nat.one_pos
    · exact N_pos

instance barPay_storable (c : Dev nD) (d : Bool) : BI.Storable (upEmb : UEmb _ 𝕄) (barPay (F := F) c d) := by
  unfold barPay; infer_instance
instance sendPay_storable (c : Dev nD) (j) : BI.Storable (upEmb : UEmb _ 𝕄) (sendPay (F := F) m ρ c j) := by
  unfold sendPay; split <;> infer_instance
instance recvPay_storable (c : Dev nD) (j) : BI.Storable (upEmb : UEmb _ 𝕄) (recvPay (F := F) m ρ c j) := by
  unfold recvPay; infer_instance
instance sched_payload_storable (g : GSem nD τ sig) (r : ℕ) (d : Bool) : BI.Storable (upEmb : UEmb _ 𝕄) ((sched (F := F) m ρ).payload g r d) := by
  obtain ⟨t, sm⟩ := g
  cases sm with
  | reg b => show BI.Storable upEmb (barPay (F := F) t.1 d); infer_instance
  | dma k =>
    show BI.Storable upEmb (if (k : Fin 34).val < 18 then sendPay (F := F) m ρ t.1 (slotOf k) else recvPay m ρ t.1 (slotOf k))
    split <;> infer_instance

section Sched
variable (c : Dev nD) (j : Fin 16)

theorem duties_bar : (sched (F := F) m ρ).duties (barCell c) 0 = Finset.univ := rfl
theorem duties_send : (sched (F := F) m ρ).duties (sendCell c j) 0 = {false} := by
  show (if 2 ≤ 2 + j.val then ({false} : Finset Bool) else ∅) = _
  exact if_pos (by omega)
theorem duties_recv : (sched (F := F) m ρ).duties (recvCell c j) 0 = {false} := by
  show (if 2 ≤ 18 + j.val then ({false} : Finset Bool) else ∅) = _
  exact if_pos (by omega)
theorem duties_later (g : GSem nD τ sig) : ∀ r, 1 ≤ r → (sched (F := F) m ρ).duties g r = ∅ :=
  fun r hr => if_neg fun h => by omega

theorem amount_bar (d : Bool) : (sched (F := F) m ρ).amount (barCell c) 0 d = 1 := rfl
theorem amount_send (d : Bool) : (sched (F := F) m ρ).amount (sendCell c j) 0 d = N := rfl
theorem amount_recv (d : Bool) : (sched (F := F) m ρ).amount (recvCell c j) 0 d = N := rfl

theorem expect_bar : (sched (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_send : (sched (F := F) m ρ).expect (sendCell c j) 0 = N := by
  unfold Schedule.expect Schedule.amountOf; rw [duties_send, Finset.sum_singleton, amount_send]
theorem expect_recv : (sched (F := F) m ρ).expect (recvCell c j) 0 = N := by
  unfold Schedule.expect Schedule.amountOf; rw [duties_recv, Finset.sum_singleton, amount_recv]

theorem payload_bar (d : Bool) : (sched (F := F) m ρ).payload (barCell c) 0 d = barPay c d := rfl
theorem payload_send (d : Bool) : (sched (F := F) m ρ).payload (sendCell c j) 0 d = sendPay m ρ c j := by
  show (if 2 + j.val < 18 then sendPay m ρ c (slotOf (sendS j)) else recvPay m ρ c (slotOf (sendS j))) = _
  rw [if_pos (by omega), slotOf_send]
theorem payload_recv (d : Bool) : (sched (F := F) m ρ).payload (recvCell c j) 0 d = recvPay m ρ c j := by
  show (if 18 + j.val < 18 then sendPay m ρ c (slotOf (recvS j)) else recvPay m ρ c (slotOf (recvS j))) = _
  rw [if_neg (by omega), slotOf_recv]

/-- A barrier's whole round brings every landing slot `c` is to fill, on both sides. -/
theorem rest_bar : bigSep ((sched (F := F) m ρ).duties (barCell c) 0 \ ∅) (fun d => (sched (F := F) m ρ).payload (barCell c) 0 d)
    = bigSep Finset.univ fun j => iprop(∃ f, sPts (F := F) (dst c j) j f) := by
  rw [Finset.sdiff_empty, duties_bar, bigSep_univ_eq_bigSepL [true, false] (by decide) (by decide), bigSepL_cons_cons, bigSepL_singleton,
    payload_bar, payload_bar, bigSep_filter_split Finset.univ (fun j => side j = true)]
  unfold barPay
  simp only [Bool.not_eq_true]
theorem rest_send : bigSep ((sched (F := F) m ρ).duties (sendCell c j) 0 \ ∅) (fun d => (sched (F := F) m ρ).payload (sendCell c j) 0 d) = sendPay m ρ c j := by
  rw [Finset.sdiff_empty, duties_send, bigSep_singleton, payload_send]
theorem rest_recv : bigSep ((sched (F := F) m ρ).duties (recvCell c j) 0 \ ∅) (fun d => (sched (F := F) m ρ).payload (recvCell c j) 0 d) = recvPay m ρ c j := by
  rw [Finset.sdiff_empty, duties_recv, bigSep_singleton, payload_recv]

end Sched

/-! ## What each device owes, and the order on semaphores -/

/-- The credits device `c` owes for the transfers through the slots `l`, the next one to go first. -/
def owe (c : Dev nD) (l : List (Fin 16)) : CellTallies nD τ sig Unit :=
  l.foldr (fun j acc => acc + tallyAt (recvCell (dst c j) j) () N) 0
/-- The slots in the order the kernel sends through them. -/
def order : List (Fin 16) := [lo 0, lo 1, lo 2, lo 3, lo 4, lo 5, lo 6, lo 7, hi 0, hi 4, hi 1, hi 5, hi 2, hi 6, hi 3, hi 7]
/-- What device `c` owes at launch: a unit to each partner's barrier, every slot's credit. -/
def O₁ (c : Dev nD) : CellTallies nD τ sig Unit := owe c order + tallyAt (barCell (pb c)) () 1
def O₀ (c : Dev nD) : CellTallies nD τ sig Unit := O₁ c + tallyAt (barCell (pa c)) () 1

theorem owe_nil (c : Dev nD) : owe c [] = 0 := rfl
theorem owe_cons (c : Dev nD) (j l) : owe c (j :: l) = owe c l + tallyAt (recvCell (dst c j) j) () N := rfl

def L (g : GSem nD τ sig) : Finset Unit := if g.1.2 = .tc then {()} else ∅
/-- Barriers at 1, the first exchange's arrivals at 2, the second's at 3, all others at 0. -/
def lv (g : GSem nD τ sig) (_ : Unit) : ℕ := match g.2 with
  | .reg _ => 1
  | .dma k => if (k : Fin 34).val < 18 then 0 else if (k : Fin 34).val < 26 then 2 else 3

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (j : Fin 16) : lv (recvCell c j) () = if j.val < 8 then 2 else 3 := by
  show (if 18 + j.val < 18 then 0 else if 18 + j.val < 26 then 2 else 3) = _
  rw [if_neg (by omega)]
  by_cases h : j.val < 8
  · rw [if_pos h, if_pos (by omega)]
  · rw [if_neg h, if_neg (by omega)]

theorem owe_pos {c : Dev nD} {g : GSem nD τ sig} {u : Unit} : ∀ {l : List (Fin 16)}, 0 < owe c l g u → ∃ j ∈ l, g = recvCell (dst c j) j
  | [], h => absurd h (Nat.lt_irrefl 0)
  | j :: l, h => by
    rw [owe_cons, Pi.add_apply, Finsupp.add_apply, tallyAt_apply] at h
    by_cases hg : g = recvCell (dst c j) j
    · exact ⟨j, List.mem_cons_self, hg⟩
    · rw [if_neg (fun h' => hg h'.1), Nat.add_zero] at h
      obtain ⟨j', hj', e⟩ := owe_pos h
      exact ⟨j', List.mem_cons_of_mem _ hj', e⟩
theorem owe_bars_pos {c : Dev nD} {l : List (Fin 16)} {g : GSem nD τ sig} {u : Unit}
    (h : 0 < (owe c l + tallyAt (barCell (pb c)) () 1 + tallyAt (barCell (pa c)) () 1 : CellTallies nD τ sig Unit) g u) :
    (∃ j, g = recvCell (dst c j) j) ∨ g = barCell (pb c) ∨ g = barCell (pa c) := by
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨j, -, e⟩ := owe_pos (l := l) h
  exact hn.1 ⟨j, e⟩
theorem O₀_pos {c : Dev nD} {g : GSem nD τ sig} {u : Unit} (h : 0 < O₀ c g u) :
    (∃ j, g = recvCell (dst c j) j) ∨ g = barCell (pb c) ∨ g = barCell (pa c) := owe_bars_pos (l := order) h

omit [FloatOps F] in
/-- A device may wait on a semaphore below every arrival it still owes. -/
theorem mayWait_owe (c : Dev nD) (sm : SemLoc sig) (l : List (Fin 16))
    (h : ∀ j ∈ l, lv ((c : Thread nD τ), sm) () < if j.val < 8 then 2 else 3) :
    (levAts L lv : sProp 𝕄) ⊢ MayWait (c : Thread nD τ) sm () (owe c l) :=
  MayOwe.of_cut (L := L) (lev := lv) (lv ((c : Thread nD τ), sm) ()) (fun p hp => by rw [Finset.mem_singleton.mp hp, L_tc]; exact Finset.mem_singleton_self _)
    (fun g u hg => by obtain ⟨j, -, rfl⟩ := owe_pos hg; exact Finset.mem_singleton_self _)
    (fun p hp => by rw [Finset.mem_singleton.mp hp])
    (fun g u hg => by obtain ⟨j, hj, rfl⟩ := owe_pos hg; rw [lv_recv]; exact h j hj)

omit [FloatOps F] in
/-- A staging semaphore is below everything a device ever owes. -/
theorem mayWait_stage (c : Dev nD) (q : DmaSem sig) (hq : (q : Fin 34).val < 18) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | rfl | rfl <;> exact Finset.mem_singleton_self _)
      (fun p hp => by rw [Finset.mem_singleton.mp hp]; exact le_of_eq (if_pos hq))
      (fun g u hg => by
        rcases O₀_pos hg with ⟨j, rfl⟩ | rfl | rfl
        · rw [lv_recv]; split <;> decide
        · exact Nat.one_pos
        · exact Nat.one_pos)
  · rw [MayWait_zero]; iintro -; iempintro

end Cert.AllReduce

end
-- ==== Proof.Steps.lean ====
/-
# The kernel's steps

Each chunk goes through five stages: untouched, first transfer sent, pair sum sent on, result stored, both transfers'
buffers back. Stated here once for every chunk: what a device holds of a chunk at each stage, and the rule that takes the
chunk from one stage to the next.
-/
module

public import proofs.«01_k».proof.Proof.Protocol

@[expose] public section

noncomputable section

namespace Cert.AllReduce

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Reading and writing a chunk -/

omit [FloatOps F] in
theorem read_x (i : Fin 8) (f : (cc0_stg0_0 : Ref sig .tc).ty.Contents (Elt F)) (x : S32x256.Idx) :
    (rowM xM (32 * i.val) (row_inb i)).view.read (Elt F) f x = f (rowIx i x) := by
  show f ((rowAt (32 * i.val) (row_inb i)).emb x) = _; rw [rowAt_emb]
omit [FloatOps F] in
theorem read_p (i : Fin 8) (f : (cc0_scratch1 : Ref sig .tc).ty.Contents (Elt F)) (x : S32x256.Idx) :
    (rowM pM (32 * i.val) (row_inb i)).view.read (Elt F) f x = f (rowIx i x) := by
  show f ((rowAt (32 * i.val) (row_inb i)).emb x) = _; rw [rowAt_emb]
omit [FloatOps F] in
/-- A slot read as a stack of one chunk and reshaped to the chunk. -/
theorem read_slot (j : Fin 16) (f : (cc0_scratch0 : Ref sig .tc).ty.Contents (Elt F)) (x : S32x256.Idx) :
    rM.view.readAt (Elt F) (slotAt j.val (slot_inb j)).toLoadRect f (Shape.reshapeEquiv squeezes_S1x32x256_S32x256.numel_eq x) = f (slotIx j x) := by
  show f ((slotAt j.val (slot_inb j)).emb (Shape.reshapeEquiv squeezes_S1x32x256_S32x256.numel_eq x)) = _; rw [slotAt_emb]
omit [FloatOps F] in
theorem write_slot (j : Fin 16) (fd : (cc0_scratch0 : Ref sig .tc).ty.Contents (Elt F)) (w : S32x256.Idx → Elt F .f32) (x : S32x256.Idx) :
    (slotM j.val (slot_inb j)).view.write (Elt F) fd w Finset.univ (slotIx j x) = w x := by
  have h := View.write_emb_of_mem (v := (slotM j.val (slot_inb j)).view) (Val := Elt F) fd w (Finset.mem_univ x)
  rw [show (slotM j.val (slot_inb j)).view.emb x = slotIx j x from slotAt_emb j x] at h
  exact h
omit [FloatOps F] in
theorem write_p (i : Fin 8) (f : (cc0_scratch1 : Ref sig .tc).ty.Contents (Elt F)) (w : S32x256.Idx → Elt F .f32) (x : S32x256.Idx) :
    (pM.access (rowAt (32 * i.val) (row_inb i)) : View sig .tc _ _ _).write (Elt F) f w Finset.univ (rowIx i x) = w x := by
  have h := View.write_emb_of_mem (v := (pM.access (rowAt (32 * i.val) (row_inb i)) : View sig .tc _ _ _)) (Val := Elt F) f w (Finset.mem_univ x)
  rw [show (pM.access (rowAt (32 * i.val) (row_inb i)) : View sig .tc _ _ _).emb x = rowIx i x from rowAt_emb i x] at h
  exact h
omit [FloatOps F] in
theorem write_o (i : Fin 8) (f : (cc0_stg1_0 : Ref sig .tc).ty.Contents (Elt F)) (w : S32x256.Idx → Elt F .f32) (x : S32x256.Idx) :
    (oM.access (rowAt (32 * i.val) (row_inb i)) : View sig .tc _ _ _).write (Elt F) f w Finset.univ (rowIx i x) = w x := by
  have h := View.write_emb_of_mem (v := (oM.access (rowAt (32 * i.val) (row_inb i)) : View sig .tc _ _ _)) (Val := Elt F) f w (Finset.mem_univ x)
  rw [show (oM.access (rowAt (32 * i.val) (row_inb i)) : View sig .tc _ _ _).emb x = rowIx i x from rowAt_emb i x] at h
  exact h

/-! ## What every device knows, and what it holds of a chunk at each stage -/

/-- Every cell's invariant, under the names `K` it was allocated at, and that every cell has reached round 0. -/
def records (K : Dev nD × CK → ℕ) : sProp 𝕄 :=
  iprop((bigSep Finset.univ fun ck : Dev nD × CK => cellInv ER (sched m ρ) (K ck) (kcell ck))
    ∗ bigSep Finset.univ fun ck : Dev nD × CK => reached ER (kcell ck) 0)

instance records_persistent (K : Dev nD × CK → ℕ) : BI.Persistent (records m ρ K) := by unfold records; infer_instance

omit [FloatOps F] in
theorem records_elim {Φ : Dev nD × CK → sProp 𝕄} (ck : Dev nD × CK) : bigSep Finset.univ Φ ⊢ Φ ck := bigSep_elim (Finset.mem_univ ck)
theorem rec_inv (K : Dev nD × CK → ℕ) (ck : Dev nD × CK) : records m ρ K ⊢ cellInv ER (sched m ρ) (K ck) (kcell ck) := by
  unfold records
  iintro ⟨H, -⟩
  iapply (records_elim (Φ := fun ck => cellInv ER (sched m ρ) (K ck) (kcell ck)) ck) $$ H
theorem rec_reached (K : Dev nD × CK → ℕ) (ck : Dev nD × CK) : records m ρ K ⊢ reached ER (kcell ck) 0 := by
  unfold records
  iintro ⟨-, H⟩
  iapply (records_elim (Φ := fun ck => (reached ER (kcell ck) 0 : sProp 𝕄)) ck) $$ H

abbrev barK (c : Dev nD) : Dev nD × CK := (c, .inl ())
abbrev sendK (c : Dev nD) (j : Fin 16) : Dev nD × CK := (c, .inr (.inl j))
abbrev recvK (c : Dev nD) (j : Fin 16) : Dev nD × CK := (c, .inr (.inr j))

/-- What a transfer through slot `j` needs beside its source: the slot on the other side and the two duties it pays. -/
def port (c : Dev nD) (j : Fin 16) : sProp 𝕄 :=
  iprop((∃ f, sPts (F := F) (dst c j) j f) ∗ dutyTok ER (sendCell c j) 0 false ∗ dutyTok ER (recvCell (dst c j) j) 0 false)
/-- What the wait for slot `j`'s arrival needs. -/
def arrival (c : Dev nD) (j : Fin 16) : sProp 𝕄 := iprop(cred (tallyAt (recvCell c j) () N) ∗ atPos ER (recvCell c j) 0 ∅ 0)
/-- Slot `j` filled, its arrival's round over. -/
def arrived (c : Dev nD) (j : Fin 16) : sProp 𝕄 := iprop(sPts c j (recvC m ρ c) ∗ atPos ER (recvCell c j) 1 ∅ 0)

/-- What device `c` holds of chunk `i`: untouched; its first transfer sent; its pair sum stored and sent; its result
    stored; every transfer's source given back. -/
def St : ℕ → Dev nD → Fin 8 → sProp 𝕄
  | 0, c, i => iprop((xPts m ρ c i fullShare ∗ port c (lo i))
      ∗ ((∃ f, pPts c i fullShare f) ∗ port c (hi i) ∗ arrival c (lo i))
      ∗ ((∃ f, oPts c i f) ∗ arrival c (hi i))
      ∗ (atPos ER (sendCell c (lo i)) 0 ∅ 0 ∗ atPos ER (sendCell c (hi i)) 0 ∅ 0))
  | 1, c, i => iprop((xPts m ρ c i fullShare.right ∗ cred (tallyAt (sendCell c (lo i)) () N))
      ∗ ((∃ f, pPts c i fullShare f) ∗ port c (hi i) ∗ arrival c (lo i))
      ∗ ((∃ f, oPts c i f) ∗ arrival c (hi i))
      ∗ (atPos ER (sendCell c (lo i)) 0 ∅ 0 ∗ atPos ER (sendCell c (hi i)) 0 ∅ 0))
  | 2, c, i => iprop((xPts m ρ c i fullShare.right ∗ cred (tallyAt (sendCell c (lo i)) () N))
      ∗ (pPts c i fullShare.right (pairC m ρ c) ∗ cred (tallyAt (sendCell c (hi i)) () N) ∗ arrived m ρ c (lo i))
      ∗ ((∃ f, oPts c i f) ∗ arrival c (hi i))
      ∗ (atPos ER (sendCell c (lo i)) 0 ∅ 0 ∗ atPos ER (sendCell c (hi i)) 0 ∅ 0))
  | 3, c, i => iprop((xPts m ρ c i fullShare.right ∗ cred (tallyAt (sendCell c (lo i)) () N))
      ∗ (pPts c i fullShare.right (pairC m ρ c) ∗ cred (tallyAt (sendCell c (hi i)) () N) ∗ arrived m ρ c (lo i))
      ∗ (oPts c i (outC m ρ c) ∗ arrived m ρ c (hi i))
      ∗ (atPos ER (sendCell c (lo i)) 0 ∅ 0 ∗ atPos ER (sendCell c (hi i)) 0 ∅ 0))
  | _, c, i => iprop(xPts m ρ c i fullShare ∗ pPts c i fullShare (pairC m ρ c) ∗ oPts c i (outC m ρ c)
      ∗ (arrived m ρ c (lo i) ∗ arrived m ρ c (hi i))
      ∗ (atPos ER (sendCell c (lo i)) 1 ∅ 0 ∗ atPos ER (sendCell c (hi i)) 1 ∅ 0))

abbrev owing (c : Dev nD) (O : CellTallies nD τ sig Unit) : sProp 𝕄 := iprop(∃ W, owes (c : Thread nD τ) O W)

/-- Device `c` past the barrier: chunk `i` at stage `σ i`, the transfers through `l` still owed. -/
def Inv (K : Dev nD × CK → ℕ) (c : Dev nD) (σ : Fin 8 → ℕ) (l : List (Fin 16)) : sProp 𝕄 :=
  iprop(records m ρ K ∗ levAts L lv ∗ atPos ER (barCell c) 1 ∅ 0 ∗ owing c (owe c l) ∗ bigSep Finset.univ fun i => St m ρ (σ i) c i)

abbrev WP (c : Dev nD) (prog : Prog (TpuEff nD τ sig (Elt F) Λ₀ .tc) PUnit) (Q : sProp 𝕄) : sProp 𝕄 :=
  wp frame (wpE (defs₀ (F := F)) 𝒱₀ (c : Thread nD τ) none) Set.univ prog (fun _ => Q)

theorem credit_slot (j : Fin 16) : (slotM j.val (slot_inb j)).view.dmaCredit = N := rfl
theorem amount_slot (j : Fin 16) (k : DmaSem sig) : (slotM j.val (slot_inb j)).view.amount (.dma k) = N := rfl
theorem credit_x (i : Fin 8) : (rowM xM (32 * i.val) (row_inb i)).view.dmaCredit = N := rfl
theorem credit_p (i : Fin 8) : (rowM pM (32 * i.val) (row_inb i)).view.dmaCredit = N := rfl

variable (K : Dev nD × CK → ℕ) (c : Dev nD) (i : Fin 8)

theorem stages_split (σ : Fin 8 → ℕ) : (bigSep Finset.univ fun k => St m ρ (σ k) c k)
    = iprop(St m ρ (σ i) c i ∗ bigSep (Finset.univ.erase i) fun k => St m ρ (σ k) c k) := bigSep_univ_split i
theorem stages_update (σ : Fin 8 → ℕ) (n : ℕ) : (bigSep Finset.univ fun k => St m ρ (Function.update σ i n k) c k)
    = iprop(St m ρ n c i ∗ bigSep (Finset.univ.erase i) fun k => St m ρ (σ k) c k) := by
  rw [bigSep_univ_split i, Function.update_self]
  congr 1
  exact bigSep_congr fun k hk => by rw [Function.update_of_ne (Finset.ne_of_mem_erase hk)]

/-- A step on one chunk is a step of the device. -/
theorem step {Q : sProp 𝕄} {σ : Fin 8 → ℕ} {l : List (Fin 16)} (n n' : ℕ) (l' : List (Fin 16)) (hσ : σ i = n) {prog rest : Prog (TpuEff nD τ sig (Elt F) Λ₀ .tc) PUnit}
    (H : iprop(records m ρ K ∗ levAts L lv ∗ owing c (owe c l) ∗ St m ρ n c i)
      ⊢ iprop(((owing c (owe c l') ∗ St m ρ n' c i) -∗ WP c rest Q) -∗ WP c prog Q))
    (hk : Inv m ρ K c (Function.update σ i n') l' ⊢ WP c rest Q) : Inv m ρ K c σ l ⊢ WP c prog Q := by
  subst hσ
  unfold Inv at hk ⊢
  rw [stages_split m ρ c i σ]
  rw [stages_update m ρ c i σ n'] at hk
  iintro ⟨#HR, #Hlev, HatB, HO, HS, Hrest⟩
  iapply H $$ [HO HS]
  · isplitr; · iexact HR
    isplitr; · iexact Hlev
    isplitl [HO]; · iexact HO
    iexact HS
  iintro ⟨HO, HS⟩
  iapply hk
  isplitr; · iexact HR
  isplitr; · iexact Hlev
  isplitl [HatB]; · iexact HatB
  isplitl [HO]; · iexact HO
  isplitl [HS]; · iexact HS
  iexact Hrest

/-- The library's rule for a transfer at slot `j`'s two cells. -/
theorem wp_send_cells {Q : sProp 𝕄} (j : Fin 16) (src : Memref sig .tc .vmem S32x256 .f32) (l : List (Fin 16)) {q : PosShare TreeShare}
    (fs : Buf (Elt F) (src.view.loc (c : Thread nD τ))) (fd : (cc0_scratch0 : Ref sig .tc).ty.Contents (Elt F)) (W : Waits sig Unit)
    (hpay : (src.view.loc (c : Thread nD τ) ↦[src.view.set]{q} fs : sProp 𝕄) ⊢ sendPay m ρ c j)
    (hval : ∀ x, src.view.read (Elt F) fs x = recvC m ρ (dst c j) (slotIx j x))
    {hsc : (slotM j.val (slot_inb j) : Memref sig (Dev.tc (dst c j) : Thread nD τ).2.kind .vmem S32x256 .f32).view.ref.isScScratch = false}
    {hsrc : src.view.WordExact} {hdst : (slotM j.val (slot_inb j)).view.WordExact}
    {hsem : DmaTarget.Typed .vmem (.dma (recvS j)) (.remote (Dev.tc (dst c j) : Thread nD τ) (slotM j.val (slot_inb j)) (.dma (sendS j)) hsc)}
    {k : PUnit → Prog (TpuEff nD τ sig (Elt F) Λ₀ .tc) PUnit} :
    iprop(cellInv ER (sched m ρ) (K (sendK c j)) (sendCell c j) ∗ cellInv ER (sched m ρ) (K (recvK (dst c j) j)) (recvCell (dst c j) j)
        ∗ (src.view.loc (c : Thread nD τ) ↦[src.view.set]{q} fs)
        ∗ ((slotM j.val (slot_inb j)).view.loc (dst c j : Thread nD τ) ↦[(slotM j.val (slot_inb j)).view.set]{fullShare} fd)
        ∗ owes (c : Thread nD τ) (owe c (j :: l)) W
        ∗ dutyTok ER (sendCell c j) 0 false ∗ reached ER (sendCell c j) 0
        ∗ dutyTok ER (recvCell (dst c j) j) 0 false ∗ reached ER (recvCell (dst c j) j) 0)
      ⊢ iprop(((cred (tallyAt (sendCell c j) () N) ∗ owes (c : Thread nD τ) (owe c l) W) -∗ WP c (k ⟨⟩) Q)
          -∗ WP c (.op (.enqueueDma src (.remote (Dev.tc (dst c j) : Thread nD τ) (slotM j.val (slot_inb j)) (.dma (sendS j)) hsc) (.dma (recvS j)) hsrc hdst hsem) k) Q) := by
  exact Rounds.wp_send_pointsTo (src := src) (dst := slotM j.val (slot_inb j)) (c' := (dst c j : Thread nD τ))
    (sS := .dma (sendS j)) (sem := .dma (recvS j)) 𝒱₀ ER (sched m ρ) (c : Thread nD τ) none (κ₁ := K (sendK c j)) (κ₂ := K (recvK (dst c j) j))
    (r₁ := 0) (r₂ := 0) (d₁ := false) (d₂ := false) (fd := fd)
    (by rw [duties_send]; exact Finset.mem_singleton_self _) (by rw [duties_recv]; exact Finset.mem_singleton_self _)
    () () N (amount_slot j (recvS j)) (amount_send m ρ c j false) (amount_recv m ρ (dst c j) j false) (owe c l) (owe_cons c j l) (W := W)
    (by rw [payload_send]; exact hpay)
    (by
      rw [payload_recv, slotM_set]
      exact Entails.of_eq (sPts_congr (dst c j) j fun x => by rw [write_slot]; exact hval x))

/-- A transfer through slot `j`, from rows `src` held at a share the schedule's send payload asks for. -/
theorem wp_send_slot {Q : sProp 𝕄} (j : Fin 16) (src : Memref sig .tc .vmem S32x256 .f32) (l : List (Fin 16)) {q : PosShare TreeShare}
    (fs : Buf (Elt F) (src.view.loc (c : Thread nD τ)))
    (hpay : (src.view.loc (c : Thread nD τ) ↦[src.view.set]{q} fs : sProp 𝕄) ⊢ sendPay m ρ c j)
    (hval : ∀ x, src.view.read (Elt F) fs x = recvC m ρ (dst c j) (slotIx j x))
    {hsc : (slotM j.val (slot_inb j) : Memref sig (Dev.tc (dst c j) : Thread nD τ).2.kind .vmem S32x256 .f32).view.ref.isScScratch = false}
    {hsrc : src.view.WordExact} {hdst : (slotM j.val (slot_inb j)).view.WordExact}
    {hsem : DmaTarget.Typed .vmem (.dma (recvS j)) (.remote (Dev.tc (dst c j) : Thread nD τ) (slotM j.val (slot_inb j)) (.dma (sendS j)) hsc)}
    {k : PUnit → Prog (TpuEff nD τ sig (Elt F) Λ₀ .tc) PUnit} :
    iprop(records m ρ K ∗ (src.view.loc (c : Thread nD τ) ↦[src.view.set]{q} fs) ∗ port c j ∗ owing c (owe c (j :: l)))
      ⊢ iprop(((cred (tallyAt (sendCell c j) () N) ∗ owing c (owe c l)) -∗ WP c (k ⟨⟩) Q)
          -∗ WP c (.op (.enqueueDma src (.remote (Dev.tc (dst c j) : Thread nD τ) (slotM j.val (slot_inb j)) (.dma (sendS j)) hsc) (.dma (recvS j)) hsrc hdst hsem) k) Q) := by
  unfold port
  iintro ⟨#HR, Hsrc, ⟨⟨%fd, Hdst⟩, HtS, HtV⟩, ⟨%W, HO⟩⟩ Hk
  ihave #HIs := (rec_inv m ρ K (sendK c j)) $$ HR
  ihave #HIv := (rec_inv m ρ K (recvK (dst c j) j)) $$ HR
  ihave #HRs := (rec_reached m ρ K (sendK c j)) $$ HR
  ihave #HRv := (rec_reached m ρ K (recvK (dst c j) j)) $$ HR
  iapply (wp_send_cells m ρ K c j src l fs fd W hpay hval) $$ [Hsrc Hdst HO HtS HtV]
  · isplitr; · iexact HIs
    isplitr; · iexact HIv
    isplitl [Hsrc]; · iexact Hsrc
    isplitl [Hdst]; · unfold sPts; rw [slotM_set]; iexact Hdst
    isplitl [HO]; · iexact HO
    isplitl [HtS]; · iexact HtS
    isplitr; · iexact HRs
    isplitl [HtV]; · iexact HtV
    iexact HRv
  iintro ⟨Hc, HO⟩
  iapply Hk
  isplitl [Hc]; · iexact Hc
  iexists W; iexact HO

/-! ## Waiting for a transfer -/

/-- The wait for slot `j`'s arrival gives the slot, filled. -/
theorem wp_wait_recv {Q : sProp 𝕄} (j : Fin 16) (src : Memref sig .tc .vmem S32x256 .f32) (l : List (Fin 16))
    (hl : ∀ j' ∈ l, lv (recvCell c j) () < if j'.val < 8 then 2 else 3)
    {h₁ : src.view.WordExact} {h₂ : (slotM j.val (slot_inb j)).view.WordExact}
    {k : PUnit → Prog (TpuEff nD τ sig (Elt F) Λ₀ .tc) PUnit} :
    iprop(records m ρ K ∗ levAts L lv ∗ owing c (owe c l) ∗ arrival c j)
      ⊢ iprop(((owing c (owe c l) ∗ arrived m ρ c j) -∗ WP c (k ⟨⟩) Q)
          -∗ WP c (.op (.waitDma2 (recvS j) src (slotM j.val (slot_inb j)) h₁ h₂) k) Q) := by
  unfold arrival arrived
  iintro ⟨#HR, #Hlev, ⟨%W, HO⟩, Hc, Hat⟩ Hk
  ihave #HI := (rec_inv m ρ K (recvK c j)) $$ HR
  iapply (Rounds.wp_wait_rest_token 𝒱₀ ER (sched m ρ) (c : Thread nD τ) none (κ := K (recvK c j))
      (wpE_waitDma2_eq 𝒱₀ (c : Thread nD τ) none Set.univ) (Set.mem_univ _) () (O := owe c l) (W := W) (R := 0) (m := 0) (T := ∅)
      (by rw [Nat.zero_add, expect_recv])) $$ [Hc HO Hat]
  · isplitr; · iexact HI
    isplitl [Hc]; · iexact Hc
    isplitl [HO]; · iexact HO
    isplitr; · iapply (mayWait_owe c (.dma (recvS j)) l hl) $$ Hlev
    iexact Hat
  iintro ⟨HO, Hat, -, Hpay⟩
  ihave Hs := (Entails.of_eq (rest_recv m ρ c j)) $$ Hpay
  iapply Hk
  isplitl [HO]; · iexists _; iexact HO
  isplitl [Hs]; · unfold recvPay; iexact Hs
  iexact Hat

/-- The wait for slot `j`'s outgoing transfer gives back the share of the rows it read. -/
theorem wp_wait_send {Q : sProp 𝕄} (j : Fin 16) (src d : Memref sig .tc .vmem S32x256 .f32) (hd : d.view.dmaCredit = N)
    {h₁ : src.view.WordExact} {h₂ : d.view.WordExact}
    {k : PUnit → Prog (TpuEff nD τ sig (Elt F) Λ₀ .tc) PUnit} :
    iprop(records m ρ K ∗ owing c (owe c []) ∗ cred (tallyAt (sendCell c j) () N) ∗ atPos ER (sendCell c j) 0 ∅ 0)
      ⊢ iprop(((owing c (owe c []) ∗ sendPay m ρ c j ∗ atPos ER (sendCell c j) 1 ∅ 0) -∗ WP c (k ⟨⟩) Q)
          -∗ WP c (.op (.waitDma2 (sendS j) src d h₁ h₂) k) Q) := by
  rw [owe_nil, ← hd]
  iintro ⟨#HR, ⟨%W, HO⟩, Hc, Hat⟩ Hk
  ihave #HI := (rec_inv m ρ K (sendK c j)) $$ HR
  iapply (Rounds.wp_wait_rest_token 𝒱₀ ER (sched m ρ) (c : Thread nD τ) none (κ := K (sendK c j))
      (wpE_waitDma2_eq 𝒱₀ (c : Thread nD τ) none Set.univ) (Set.mem_univ _) () (O := 0) (W := W) (R := 0) (m := 0) (T := ∅)
      (by rw [Nat.zero_add, expect_send, hd])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hs := (Entails.of_eq (rest_send m ρ c j)) $$ Hpay
  iapply Hk
  isplitl [HO]; · iexists _; iexact HO
  isplitl [Hs]; · iexact Hs
  iexact Hat

/-! ## Reading and writing a chunk's rows in a program -/

omit [FloatOps F] in
theorem x_sub : (xM.access (rowAt (32 * i.val) (row_inb i)) : View sig .tc _ _ _).set ⊆ rows i := by
  rw [show (xM.access (rowAt (32 * i.val) (row_inb i)) : View sig .tc _ _ _).set = rows i from View.set_slice_whole _ _]
omit [FloatOps F] in
theorem p_sub : (pM.access (rowAt (32 * i.val) (row_inb i)) : View sig .tc _ _ _).set ⊆ rows i := by
  rw [show (pM.access (rowAt (32 * i.val) (row_inb i)) : View sig .tc _ _ _).set = rows i from View.set_slice_whole _ _]
omit [FloatOps F] in
theorem o_sub : (oM.access (rowAt (32 * i.val) (row_inb i)) : View sig .tc _ _ _).set ⊆ rows i := by
  rw [show (oM.access (rowAt (32 * i.val) (row_inb i)) : View sig .tc _ _ _).set = rows i from View.set_slice_whole _ _]
omit [FloatOps F] in
theorem s_sub (j : Fin 16) : (rM.access (slotAt j.val (slot_inb j)) : View sig .tc _ _ _).set ⊆ slots j := by
  rw [show (rM.access (slotAt j.val (slot_inb j)) : View sig .tc _ _ _).set = slots j from View.set_slice_whole _ _]

theorem wp_load_x {Q : sProp 𝕄} (q : PosShare TreeShare) {hl : xM.view.LoadsAt (rowAt (32 * i.val) (row_inb i)).toLoadRect}
    {k : (S32x256.Idx → Elt F .f32) → Prog (TpuEff nD τ sig (Elt F) Λ₀ .tc) PUnit} :
    xPts m ρ c i q ⊢ iprop((xPts m ρ c i q -∗ WP c (k fun x => X m ρ c (rowIx i x)) Q)
      -∗ WP c (.op (.load xM (rowAt (32 * i.val) (row_inb i)).toLoadRect hl) k) Q) := by
  have h := wp_load_rect (Q := fun _ => Q) (defs := defs₀ (F := F)) (Γ := .empty) 𝒱₀ (c : Thread nD τ) none Set.univ (m := xM) (r := rowAt (32 * i.val) (row_inb i))
    (hl := hl) (k := k) (q := q) (f := X m ρ c) (x_sub i)
  rw [show (xM.access (rowAt (32 * i.val) (row_inb i)) : View sig .tc _ _ _).read (Elt F) (X m ρ c) = fun x => X m ρ c (rowIx i x) from
    funext fun x => read_x i (X m ρ c) x] at h
  exact h

theorem wp_load_p {Q : sProp 𝕄} (q : PosShare TreeShare) (f : (cc0_scratch1 : Ref sig .tc).ty.Contents (Elt F))
    {hl : pM.view.LoadsAt (rowAt (32 * i.val) (row_inb i)).toLoadRect} {k : (S32x256.Idx → Elt F .f32) → Prog (TpuEff nD τ sig (Elt F) Λ₀ .tc) PUnit} :
    pPts c i q f ⊢ iprop((pPts c i q f -∗ WP c (k fun x => f (rowIx i x)) Q)
      -∗ WP c (.op (.load pM (rowAt (32 * i.val) (row_inb i)).toLoadRect hl) k) Q) := by
  have h := wp_load_rect (Q := fun _ => Q) (defs := defs₀ (F := F)) (Γ := .empty) 𝒱₀ (c : Thread nD τ) none Set.univ (m := pM) (r := rowAt (32 * i.val) (row_inb i))
    (hl := hl) (k := k) (q := q) (f := f) (p_sub i)
  rw [show (pM.access (rowAt (32 * i.val) (row_inb i)) : View sig .tc _ _ _).read (Elt F) f = fun x => f (rowIx i x) from
    funext fun x => read_p i f x] at h
  exact h

/-- A load of a chunk of the result's buffer, whose value is not used. -/
theorem wp_load_o {Q : sProp 𝕄} (f : (cc0_stg1_0 : Ref sig .tc).ty.Contents (Elt F))
    {hl : oM.view.LoadsAt (rowAt (32 * i.val) (row_inb i)).toLoadRect} {rest : Prog (TpuEff nD τ sig (Elt F) Λ₀ .tc) PUnit} :
    oPts c i f ⊢ iprop((oPts c i f -∗ WP c rest Q)
      -∗ WP c (.op (.load oM (rowAt (32 * i.val) (row_inb i)).toLoadRect hl) fun _ => rest) Q) :=
  wp_load_rect (Q := fun _ => Q) (defs := defs₀ (F := F)) (Γ := .empty) 𝒱₀ (c : Thread nD τ) none Set.univ (m := oM) (r := rowAt (32 * i.val) (row_inb i))
    (hl := hl) (k := fun _ => rest) (q := fullShare) (f := f) (o_sub i)

/-- What a load of landing slot `j` reads. -/
def slotRead (j : Fin 16) (f : (cc0_scratch0 : Ref sig .tc).ty.Contents (Elt F)) : S1x32x256.Idx → Elt F .f32 :=
  rM.view.readAt (Elt F) (slotAt j.val (slot_inb j)).toLoadRect f

theorem wp_load_s {Q : sProp 𝕄} (j : Fin 16) (f : (cc0_scratch0 : Ref sig .tc).ty.Contents (Elt F))
    {hl : rM.view.LoadsAt (slotAt j.val (slot_inb j)).toLoadRect} {k : (S1x32x256.Idx → Elt F .f32) → Prog (TpuEff nD τ sig (Elt F) Λ₀ .tc) PUnit} :
    sPts c j f ⊢ iprop((sPts c j f -∗ WP c (k (slotRead j f)) Q)
      -∗ WP c (.op (.load rM (slotAt j.val (slot_inb j)).toLoadRect hl) k) Q) :=
  wp_load_rect (Q := fun _ => Q) (defs := defs₀ (F := F)) (Γ := .empty) 𝒱₀ (c : Thread nD τ) none Set.univ (m := rM) (r := slotAt j.val (slot_inb j))
    (hl := hl) (k := k) (q := fullShare) (f := f) (s_sub j)

theorem wp_store_p {Q : sProp 𝕄} (f g : (cc0_scratch1 : Ref sig .tc).ty.Contents (Elt F)) (w : S32x256.Idx → Elt F .f32) (hw : ∀ x, w x = g (rowIx i x))
    {hx : (pM.access (rowAt (32 * i.val) (row_inb i)) : View sig .tc _ _ _).Stores Finset.univ} {hm}
    {k : PUnit → Prog (TpuEff nD τ sig (Elt F) Λ₀ .tc) PUnit} :
    pPts c i fullShare f ⊢ iprop((pPts c i fullShare g -∗ WP c (k ⟨⟩) Q)
      -∗ WP c (.op (.store pM (rowAt (32 * i.val) (row_inb i)) w Finset.univ hx hm) k) Q) := by
  have h := wp_store (Q := fun _ => Q) (defs := defs₀ (F := F)) (Γ := .empty) 𝒱₀ (c : Thread nD τ) none Set.univ (m := pM) (r := rowAt (32 * i.val) (row_inb i))
    (Mk := Finset.univ) (w := w) (hx := hx) (hm := hm) (k := k) (f := f) (p_sub i)
  rw [← pPts_congr c i fullShare fun x => (write_p i f w x).trans (hw x)]
  exact h

theorem wp_store_o {Q : sProp 𝕄} (f g : (cc0_stg1_0 : Ref sig .tc).ty.Contents (Elt F)) (w : S32x256.Idx → Elt F .f32) (hw : ∀ x, w x = g (rowIx i x))
    {hx : (oM.access (rowAt (32 * i.val) (row_inb i)) : View sig .tc _ _ _).Stores Finset.univ} {hm}
    {k : PUnit → Prog (TpuEff nD τ sig (Elt F) Λ₀ .tc) PUnit} :
    oPts c i f ⊢ iprop((oPts c i g -∗ WP c (k ⟨⟩) Q)
      -∗ WP c (.op (.store oM (rowAt (32 * i.val) (row_inb i)) w Finset.univ hx hm) k) Q) := by
  have h := wp_store (Q := fun _ => Q) (defs := defs₀ (F := F)) (Γ := .empty) 𝒱₀ (c : Thread nD τ) none Set.univ (m := oM) (r := rowAt (32 * i.val) (row_inb i))
    (Mk := Finset.univ) (w := w) (hx := hx) (hm := hm) (k := k) (f := f) (o_sub i)
  rw [← oPts_congr c i fun x => (write_o i f w x).trans (hw x)]
  exact h

/-! ## The four steps of a chunk -/

theorem x_halves : xPts m ρ c i fullShare ⊣⊢ iprop(xPts m ρ c i fullShare.left ∗ xPts m ρ c i fullShare.right) :=
  pointsTo_share (PosShare.mem_left_op_right fullShare)
theorem p_halves (f : (cc0_scratch1 : Ref sig .tc).ty.Contents (Elt F)) :
    pPts c i fullShare f ⊣⊢ iprop(pPts c i fullShare.left f ∗ pPts c i fullShare.right f) :=
  pointsTo_share (PosShare.mem_left_op_right fullShare)

theorem sendPay_lo : sendPay m ρ c (lo i) = xPts m ρ c i fullShare.left := by
  unfold sendPay; rw [if_pos (lo_lt i), chunkOf_lo]
theorem sendPay_hi : sendPay m ρ c (hi i) = pPts c i fullShare.left (pairC m ρ c) := by
  unfold sendPay; rw [if_neg (hi_not_lt i), chunkOf_hi]

/-- The chunk's rows of `x` go to the first partner. -/
theorem first_send {Q : sProp 𝕄} {σ : Fin 8 → ℕ} {l : List (Fin 16)} (hσ : σ i = 0) (a s : ℕ) (ha : a = 32 * i.val) (hs : s = (lo i).val)
    (n : Dev nD) (hn : n = dst c (lo i)) (sS sR : DmaSem sig) (hS : sS = sendS (lo i)) (hR : sR = recvS (lo i))
    {hrow : ∀ x, (![a, 0] : Fin 2 → ℕ) x + S32x256.size x ≤ S256x256.size x} {hslot : ∀ x, (![s, 0, 0] : Fin 3 → ℕ) x + S1x32x256.size x ≤ S16x32x256.size x}
    {hsc : (slotM s hslot : Memref sig (Dev.tc n : Thread nD τ).2.kind .vmem S32x256 .f32).view.ref.isScScratch = false}
    {hsrc : (rowM xM a hrow).view.WordExact} {hdst : (slotM s hslot).view.WordExact}
    {hsem : DmaTarget.Typed .vmem (.dma sR) (.remote (Dev.tc n : Thread nD τ) (slotM s hslot) (.dma sS) hsc)}
    {k : PUnit → Prog (TpuEff nD τ sig (Elt F) Λ₀ .tc) PUnit}
    (hk : Inv m ρ K c (Function.update σ i 1) l ⊢ WP c (k ⟨⟩) Q) :
    Inv m ρ K c σ (lo i :: l) ⊢ WP c (.op (.enqueueDma (rowM xM a hrow) (.remote (Dev.tc n : Thread nD τ) (slotM s hslot) (.dma sS) hsc) (.dma sR) hsrc hdst hsem) k) Q := by
  subst ha hs hn hS hR
  refine step m ρ K c i 0 1 l hσ ?_ hk
  simp only [St]
  iintro ⟨#HR, #Hlev, HO, ⟨Hx, Hport⟩, H2, H3, H4⟩ Hk
  ihave ⟨HxL, HxR⟩ := (x_halves m ρ c i).1 $$ Hx
  iapply (wp_send_slot m ρ K c (lo i) (rowM xM (32 * i.val) (row_inb i)) l (X m ρ c) (q := fullShare.left)
      (by rw [sendPay_lo, rowM_set_x]; exact .rfl)
      (fun x => by rw [read_x, recvC_lo, dst_dst])) $$ [HxL Hport HO]
  · isplitr; · iexact HR
    isplitl [HxL]; · rw [rowM_set_x]; unfold xPts; iexact HxL
    isplitl [Hport]; · iexact Hport
    iexact HO
  iintro ⟨Hc, HO⟩
  iapply Hk
  isplitl [HO]; · iexact HO
  isplitl [HxR Hc]
  · isplitl [HxR]; · iexact HxR
    iexact Hc
  isplitl [H2]; · iexact H2
  isplitl [H3]; · iexact H3
  iexact H4

/-- Where a load of a slot finds row `x 0`, column `x 1` of the chunk. -/
abbrev inSlot (x : S32x256.Idx) : S1x32x256.Idx := Shape.reshapeEquiv squeezes_S1x32x256_S32x256.numel_eq x

/-- The first partner's rows have come: they are added to the chunk's own, the sums stored and sent to the second partner. -/
theorem pair_send {Q : sProp 𝕄} {σ : Fin 8 → ℕ} {l : List (Fin 16)} (hσ : σ i = 1) (hl : ∀ j ∈ hi i :: l, ¬ j.val < 8)
    (a s t : ℕ) (ha : a = 32 * i.val) (hs : s = (lo i).val) (ht : t = (hi i).val)
    (n : Dev nD) (hn : n = dst c (hi i)) (sV sS sR : DmaSem sig) (hV : sV = recvS (lo i)) (hS : sS = sendS (hi i)) (hR : sR = recvS (hi i))
    (pay : (S32x256.Idx → Elt F .f32) → (S1x32x256.Idx → Elt F .f32) → S32x256.Idx → Elt F .f32)
    (hpay : ∀ v v' x, pay v v' x = FloatOps.addf (F := F) (φ := .f32) (v x) (v' (inSlot x)))
    {hrow : ∀ x, (![a, 0] : Fin 2 → ℕ) x + S32x256.size x ≤ S256x256.size x} {hslot : ∀ x, (![s, 0, 0] : Fin 3 → ℕ) x + S1x32x256.size x ≤ S16x32x256.size x}
    {hslot' : ∀ x, (![t, 0, 0] : Fin 3 → ℕ) x + S1x32x256.size x ≤ S16x32x256.size x}
    {hw₁ : (rowM xM a hrow).view.WordExact} {hw₂ : (slotM s hslot).view.WordExact}
    {hlx : xM.view.LoadsAt (rowAt a hrow).toLoadRect} {hls : rM.view.LoadsAt (slotAt s hslot).toLoadRect} {hlp : pM.view.LoadsAt (rowAt a hrow).toLoadRect}
    {hx : (pM.access (rowAt a hrow) : View sig .tc _ _ _).Stores Finset.univ} {hm}
    {hsc : (slotM t hslot' : Memref sig (Dev.tc n : Thread nD τ).2.kind .vmem S32x256 .f32).view.ref.isScScratch = false}
    {hsrc : (rowM pM a hrow).view.WordExact} {hdst : (slotM t hslot').view.WordExact}
    {hsem : DmaTarget.Typed .vmem (.dma sR) (.remote (Dev.tc n : Thread nD τ) (slotM t hslot') (.dma sS) hsc)}
    {k : PUnit → Prog (TpuEff nD τ sig (Elt F) Λ₀ .tc) PUnit}
    (hk : Inv m ρ K c (Function.update σ i 2) l ⊢ WP c (k ⟨⟩) Q) :
    Inv m ρ K c σ (hi i :: l) ⊢ WP c
      (.op (.waitDma2 sV (rowM xM a hrow) (slotM s hslot) hw₁ hw₂) fun _ =>
       .op (.load xM (rowAt a hrow).toLoadRect hlx) fun v =>
       .op (.load rM (slotAt s hslot).toLoadRect hls) fun v' =>
       .op (.load pM (rowAt a hrow).toLoadRect hlp) fun _ =>
       .op (.store pM (rowAt a hrow) (pay v v') Finset.univ hx hm) fun _ =>
       .op (.enqueueDma (rowM pM a hrow) (.remote (Dev.tc n : Thread nD τ) (slotM t hslot') (.dma sS) hsc) (.dma sR) hsrc hdst hsem) k) Q := by
  subst ha hs ht hn hV hS hR
  refine step m ρ K c i 1 2 l hσ ?_ hk
  simp only [St]
  iintro ⟨#HR, #Hlev, HO, ⟨Hx, Hcx⟩, ⟨⟨%f, Hp⟩, Hport, Harr⟩, H3, H4⟩ Hk
  iapply (wp_wait_recv m ρ K c (lo i) (rowM xM (32 * i.val) (row_inb i)) (hi i :: l)
      (fun j hj => by rw [lv_recv, if_pos (lo_lt i), if_neg (hl j hj)]; decide)) $$ [HO Harr]
  · isplitr; · iexact HR
    isplitr; · iexact Hlev
    isplitl [HO]; · iexact HO
    iexact Harr
  iintro ⟨HO, Harr⟩
  unfold arrived
  icases Harr with ⟨Hs, HatV⟩
  iapply (wp_load_x m ρ c i fullShare.right) $$ Hx; iintro Hx
  iapply (wp_load_s c (lo i) (recvC m ρ c)) $$ Hs; iintro Hs
  iapply (wp_load_p c i fullShare f) $$ Hp; iintro Hp
  iapply (wp_store_p c i f (pairC m ρ c) _ (fun x => by
    rw [hpay, pairC_row]
    exact congrArg _ ((read_slot (lo i) (recvC m ρ c) x).trans (recvC_lo m ρ c i x)))) $$ Hp; iintro Hp
  ihave ⟨HpL, HpR⟩ := (p_halves c i (pairC m ρ c)).1 $$ Hp
  iapply (wp_send_slot m ρ K c (hi i) (rowM pM (32 * i.val) (row_inb i)) l (pairC m ρ c) (q := fullShare.left)
      (by rw [sendPay_hi, rowM_set_p]; exact .rfl)
      (fun x => by rw [read_p, recvC_hi, dst_dst])) $$ [HpL Hport HO]
  · isplitr; · iexact HR
    isplitl [HpL]; · rw [rowM_set_p]; unfold pPts; iexact HpL
    isplitl [Hport]; · iexact Hport
    iexact HO
  iintro ⟨Hc, HO⟩
  iapply Hk
  isplitl [HO]; · iexact HO
  isplitl [Hx Hcx]
  · isplitl [Hx]; · iexact Hx
    iexact Hcx
  isplitl [HpR Hc Hs HatV]
  · isplitl [HpR]; · iexact HpR
    isplitl [Hc]; · iexact Hc
    isplitl [Hs]; · iexact Hs
    iexact HatV
  isplitl [H3]; · iexact H3
  iexact H4

/-- The second partner's sums have come: they are added to the chunk's own and the result stored. -/
theorem out_store {Q : sProp 𝕄} {σ : Fin 8 → ℕ} (hσ : σ i = 2)
    (a t : ℕ) (ha : a = 32 * i.val) (ht : t = (hi i).val) (sV : DmaSem sig) (hV : sV = recvS (hi i))
    (pay : (S32x256.Idx → Elt F .f32) → (S1x32x256.Idx → Elt F .f32) → S32x256.Idx → Elt F .f32)
    (hpay : ∀ v v' x, pay v v' x = FloatOps.addf (F := F) (φ := .f32) (v x) (v' (inSlot x)))
    {hrow : ∀ x, (![a, 0] : Fin 2 → ℕ) x + S32x256.size x ≤ S256x256.size x} {hslot : ∀ x, (![t, 0, 0] : Fin 3 → ℕ) x + S1x32x256.size x ≤ S16x32x256.size x}
    {hw₁ : (rowM pM a hrow).view.WordExact} {hw₂ : (slotM t hslot).view.WordExact}
    {hlp : pM.view.LoadsAt (rowAt a hrow).toLoadRect} {hls : rM.view.LoadsAt (slotAt t hslot).toLoadRect} {hlo : oM.view.LoadsAt (rowAt a hrow).toLoadRect}
    {hx : (oM.access (rowAt a hrow) : View sig .tc _ _ _).Stores Finset.univ} {hm}
    {k : PUnit → Prog (TpuEff nD τ sig (Elt F) Λ₀ .tc) PUnit}
    (hk : Inv m ρ K c (Function.update σ i 3) [] ⊢ WP c (k ⟨⟩) Q) :
    Inv m ρ K c σ [] ⊢ WP c
      (.op (.waitDma2 sV (rowM pM a hrow) (slotM t hslot) hw₁ hw₂) fun _ =>
       .op (.load pM (rowAt a hrow).toLoadRect hlp) fun v =>
       .op (.load rM (slotAt t hslot).toLoadRect hls) fun v' =>
       .op (.load oM (rowAt a hrow).toLoadRect hlo) fun _ =>
       .op (.store oM (rowAt a hrow) (pay v v') Finset.univ hx hm) k) Q := by
  subst ha ht hV
  refine step m ρ K c i 2 3 [] hσ ?_ hk
  simp only [St]
  iintro ⟨#HR, #Hlev, HO, H1, ⟨Hp, Hcp, Harr'⟩, ⟨⟨%f, Ho⟩, Harr⟩, H4⟩ Hk
  iapply (wp_wait_recv m ρ K c (hi i) (rowM pM (32 * i.val) (row_inb i)) [] (fun j hj => absurd hj (List.not_mem_nil))) $$ [HO Harr]
  · isplitr; · iexact HR
    isplitr; · iexact Hlev
    isplitl [HO]; · iexact HO
    iexact Harr
  iintro ⟨HO, Harr⟩
  unfold arrived
  icases Harr with ⟨Hs, HatV⟩
  iapply (wp_load_p c i fullShare.right (pairC m ρ c)) $$ Hp; iintro Hp
  iapply (wp_load_s c (hi i) (recvC m ρ c)) $$ Hs; iintro Hs
  iapply (wp_load_o c i f) $$ Ho; iintro Ho
  iapply (wp_store_o c i f (outC m ρ c) _ (fun x => by
    rw [hpay, outC_row]
    exact congrArg _ ((read_slot (hi i) (recvC m ρ c) x).trans (recvC_hi m ρ c i x)))) $$ Ho; iintro Ho
  iapply Hk
  isplitl [HO]; · iexact HO
  isplitl [H1]; · iexact H1
  isplitl [Hp Hcp Harr']
  · isplitl [Hp]; · iexact Hp
    isplitl [Hcp]; · iexact Hcp
    iexact Harr'
  isplitl [Ho Hs HatV]
  · isplitl [Ho]; · iexact Ho
    isplitl [Hs]; · iexact Hs
    iexact HatV
  iexact H4

/-- Both outgoing transfers are over: the shares they read are given back. -/
theorem sends_done {Q : sProp 𝕄} {σ : Fin 8 → ℕ} (hσ : σ i = 3)
    (a s t : ℕ) (ha : a = 32 * i.val) (hs : s = (lo i).val) (ht : t = (hi i).val)
    (sS sS' : DmaSem sig) (hS : sS = sendS (lo i)) (hS' : sS' = sendS (hi i))
    {hrow : ∀ x, (![a, 0] : Fin 2 → ℕ) x + S32x256.size x ≤ S256x256.size x} {hslot : ∀ x, (![s, 0, 0] : Fin 3 → ℕ) x + S1x32x256.size x ≤ S16x32x256.size x}
    {hslot' : ∀ x, (![t, 0, 0] : Fin 3 → ℕ) x + S1x32x256.size x ≤ S16x32x256.size x}
    {hw₁ : (slotM s hslot).view.WordExact} {hw₂ : (rowM xM a hrow).view.WordExact} {hw₃ : (slotM t hslot').view.WordExact} {hw₄ : (rowM pM a hrow).view.WordExact}
    {k : PUnit → Prog (TpuEff nD τ sig (Elt F) Λ₀ .tc) PUnit}
    (hk : Inv m ρ K c (Function.update σ i 4) [] ⊢ WP c (k ⟨⟩) Q) :
    Inv m ρ K c σ [] ⊢ WP c
      (.op (.waitDma2 sS (slotM s hslot) (rowM xM a hrow) hw₁ hw₂) fun _ =>
       .op (.waitDma2 sS' (slotM t hslot') (rowM pM a hrow) hw₃ hw₄) k) Q := by
  subst ha hs ht hS hS'
  refine step m ρ K c i 3 4 [] hσ ?_ hk
  simp only [St]
  iintro ⟨#HR, #Hlev, HO, ⟨HxR, Hcx⟩, ⟨HpR, Hcp, Harr⟩, ⟨Ho, Harr'⟩, HatL, HatH⟩ Hk
  iapply (wp_wait_send m ρ K c (lo i) (slotM (lo i).val (slot_inb (lo i))) (rowM xM (32 * i.val) (row_inb i)) (credit_x i)) $$ [HO Hcx HatL]
  · isplitr; · iexact HR
    isplitl [HO]; · iexact HO
    isplitl [Hcx]; · iexact Hcx
    iexact HatL
  iintro ⟨HO, HxL, HatL⟩
  iapply (wp_wait_send m ρ K c (hi i) (slotM (hi i).val (slot_inb (hi i))) (rowM pM (32 * i.val) (row_inb i)) (credit_p i)) $$ [HO Hcp HatH]
  · isplitr; · iexact HR
    isplitl [HO]; · iexact HO
    isplitl [Hcp]; · iexact Hcp
    iexact HatH
  iintro ⟨HO, HpL, HatH⟩
  ihave HxL := (Entails.of_eq (sendPay_lo m ρ c i)) $$ HxL
  ihave HpL := (Entails.of_eq (sendPay_hi m ρ c i)) $$ HpL
  iapply Hk
  isplitl [HO]; · iexact HO
  isplitl [HxL HxR]
  · iapply (x_halves m ρ c i).2
    isplitl [HxL]; · iexact HxL
    iexact HxR
  isplitl [HpL HpR]
  · iapply (p_halves c i (pairC m ρ c)).2
    isplitl [HpL]; · iexact HpL
    iexact HpR
  isplitl [Ho]; · iexact Ho
  isplitl [Harr Harr']
  · isplitl [Harr]; · iexact Harr
    iexact Harr'
  isplitl [HatL]; · iexact HatL
  iexact HatH

end Cert.AllReduce

end
-- ==== Proof.Body.lean ====
/-
# The kernel's body on one device

From what a device holds at launch to what it holds at exit: the handshake on the barrier, then the four steps of each of
the eight chunks in program order, then every semaphore closed at zero.
-/
module

public import proofs.«01_k».proof.Proof.Steps
public import Idealize.ShloMosaic.Lib.Pipeline.Value

@[expose] public section

noncomputable section

namespace Cert.AllReduce

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Buffers and their pieces -/

section Pieces
variable (c : Dev nD)

theorem x_rows : (((c : Thread nD τ).loc cc0_stg0_0) ↦{fullShare} X m ρ c : sProp 𝕄) = bigSep Finset.univ fun i => xPts m ρ c i fullShare :=
  (congrArg (fun S => (((c : Thread nD τ).loc cc0_stg0_0) ↦[S]{fullShare} X m ρ c : sProp 𝕄)) rows_cover.symm).trans (pointsTo_biUnion _ _ rows_disjoint)
omit [FloatOps F] in
theorem p_rows (f : (cc0_scratch1 : Ref sig .tc).ty.Contents (Elt F)) :
    (((c : Thread nD τ).loc cc0_scratch1) ↦{fullShare} f : sProp 𝕄) = bigSep Finset.univ fun i => pPts c i fullShare f :=
  (congrArg (fun S => (((c : Thread nD τ).loc cc0_scratch1) ↦[S]{fullShare} f : sProp 𝕄)) rows_cover.symm).trans (pointsTo_biUnion _ _ rows_disjoint)
omit [FloatOps F] in
theorem o_rows (f : (cc0_stg1_0 : Ref sig .tc).ty.Contents (Elt F)) :
    (((c : Thread nD τ).loc cc0_stg1_0) ↦{fullShare} f : sProp 𝕄) = bigSep Finset.univ fun i => oPts c i f :=
  (congrArg (fun S => (((c : Thread nD τ).loc cc0_stg1_0) ↦[S]{fullShare} f : sProp 𝕄)) rows_cover.symm).trans (pointsTo_biUnion _ _ rows_disjoint)
omit [FloatOps F] in
theorem s_slots (f : (cc0_scratch0 : Ref sig .tc).ty.Contents (Elt F)) :
    (((c : Thread nD τ).loc cc0_scratch0) ↦{fullShare} f : sProp 𝕄) = bigSep Finset.univ fun j => sPts c j f :=
  (congrArg (fun S => (((c : Thread nD τ).loc cc0_scratch0) ↦[S]{fullShare} f : sProp 𝕄)) slots_cover.symm).trans (pointsTo_biUnion _ _ slots_disjoint)

omit [FloatOps F] in
/-- Something held of every slot is held of each chunk's two. -/
theorem by_chunk (Φ : Fin 16 → sProp 𝕄) : bigSep Finset.univ Φ = iprop(bigSep Finset.univ fun i => iprop(Φ (lo i) ∗ Φ (hi i))) := by
  rw [bigSep_univ_equiv (finSumFinEquiv : Fin 8 ⊕ Fin 8 ≃ Fin (8 + 8)) Φ, bigSep_univ_sum, bigSep_sep']
  rfl

omit [FloatOps F] in
/-- A device's landing slots, cut by the partner that fills them: what its two barrier signals hand over. -/
theorem slots_out (f : (cc0_scratch0 : Ref sig .tc).ty.Contents (Elt F)) :
    (((c : Thread nD τ).loc cc0_scratch0) ↦{fullShare} f : sProp 𝕄) ⊢ iprop(barPay (pa c) false ∗ barPay (pb c) true) := by
  have hd (d : Bool) (n : Dev nD) (hn : ∀ j, side j = d → dst n j = c) :
      bigSep (Finset.univ.filter fun j => side j = d) (fun j => sPts (F := F) c j f) ⊢ barPay n d := by
    unfold barPay
    refine bigSep_mono fun j hj => ?_
    rw [hn j (Finset.mem_filter.mp hj).2]
    show sPts c j f ⊢ iprop(∃ f, sPts (F := F) c j f)
    iintro H; iexists f; iexact H
  have ht := hd true (pb c) fun j hj => by unfold dst; rw [if_pos hj, pb_pb]
  have hf := hd false (pa c) fun j hj => by unfold dst; rw [if_neg (by rw [hj]; decide), pa_pa]
  have hs : (((c : Thread nD τ).loc cc0_scratch0) ↦{fullShare} f : sProp 𝕄)
      = iprop((bigSep (Finset.univ.filter fun j => side j = true) fun j => sPts c j f)
        ∗ bigSep (Finset.univ.filter fun j => side j = false) fun j => sPts c j f) := by
    rw [s_slots, bigSep_filter_split Finset.univ (fun j => side j = true)]
    simp only [Bool.not_eq_true]
    rfl
  rw [hs]
  iintro ⟨HT, HF⟩
  isplitl [HF]
  · iapply hf; iexact HF
  · iapply ht; iexact HT

end Pieces

/-! ## What a device holds at launch and at exit -/

/-- What device `c` holds for slot `j`: the duties of its transfer, its arrival's credit, its places in the two cells. -/
def held (c : Dev nD) (j : Fin 16) : sProp 𝕄 :=
  iprop((dutyTok ER (sendCell c j) 0 false ∗ dutyTok ER (recvCell (dst c j) j) 0 false) ∗ arrival c j ∗ atPos ER (sendCell c j) 0 ∅ 0)

/-- What device `c` starts from, buffers and debts aside, when the cells' invariants go by the names `K`. -/
def startAt (K : Dev nD × CK → ℕ) (c : Dev nD) : sProp 𝕄 :=
  iprop(records m ρ K ∗ levAts L lv ∗ atPos ER (barCell c) 0 ∅ 0
    ∗ dutyTok ER (barCell (pa c)) 0 false ∗ dutyTok ER (barCell (pb c)) 0 true ∗ cred (tallyAt (barCell c) () 2)
    ∗ bigSep Finset.univ fun j => held c j)

/-- The landing slots and the pair sums, at any contents. -/
def scratch (c : Dev nD) : sProp 𝕄 :=
  iprop((∃ f : (cc0_scratch0 : Ref sig .tc).ty.Contents (Elt F), ((c : Thread nD τ).loc cc0_scratch0) ↦{fullShare} f)
    ∗ (∃ f : (cc0_scratch1 : Ref sig .tc).ty.Contents (Elt F), ((c : Thread nD τ).loc cc0_scratch1) ↦{fullShare} f))

/-- All that device `c`'s body starts from. -/
def entry (K : Dev nD × CK → ℕ) (c : Dev nD) : sProp 𝕄 :=
  iprop(startAt m ρ K c ∗ scratch c ∗ owing c (O₀ c) ∗ (((c : Thread nD τ).loc cc0_stg0_0) ↦{fullShare} X m ρ c)
    ∗ (∃ f : (cc0_stg1_0 : Ref sig .tc).ty.Contents (Elt F), ((c : Thread nD τ).loc cc0_stg1_0) ↦{fullShare} f))

/-- Device `c`'s semaphores at zero, the barrier's and the transfers'. -/
def zeros (c : Dev nD) : sProp 𝕄 :=
  iprop(semVal (barCell c) 0 ∗ (bigSep Finset.univ fun j => semVal (sendCell c j) 0) ∗ bigSep Finset.univ fun j => semVal (recvCell c j) 0)

/-- All that device `c`'s body ends with. -/
def leave (c : Dev nD) : sProp 𝕄 :=
  iprop((scratch c ∗ zeros c) ∗ owing c 0 ∗ (((c : Thread nD τ).loc cc0_stg0_0) ↦{fullShare} X m ρ c)
    ∗ (((c : Thread nD τ).loc cc0_stg1_0) ↦{fullShare} outC m ρ c))

variable (K : Dev nD × CK → ℕ) (c : Dev nD)

/-! ## The handshake -/

/-- The pieces a device holds past the barrier make up every chunk's first stage. -/
theorem stage_zero :
    iprop(((((c : Thread nD τ).loc cc0_stg0_0) ↦{fullShare} X m ρ c)
      ∗ (∃ f : (cc0_scratch1 : Ref sig .tc).ty.Contents (Elt F), ((c : Thread nD τ).loc cc0_scratch1) ↦{fullShare} f)
      ∗ (∃ f : (cc0_stg1_0 : Ref sig .tc).ty.Contents (Elt F), ((c : Thread nD τ).loc cc0_stg1_0) ↦{fullShare} f))
      ∗ (bigSep Finset.univ fun j => iprop(∃ f, sPts (F := F) (dst c j) j f)) ∗ bigSep Finset.univ fun j => held c j)
    ⊢ bigSep Finset.univ fun i => St m ρ 0 c i := by
  have hcut : iprop((bigSep Finset.univ fun j => iprop(∃ f, sPts (F := F) (dst c j) j f)) ∗ bigSep Finset.univ fun j => held c j)
      ⊢ bigSep Finset.univ fun i : Fin 8 => (iprop(((∃ f, sPts (F := F) (dst c (lo i)) (lo i) f) ∗ held c (lo i)) ∗ (∃ f, sPts (F := F) (dst c (hi i)) (hi i) f) ∗ held c (hi i)) : sProp 𝕄) := by
    rw [← bigSep_sep', by_chunk]
  iintro ⟨⟨Hx, ⟨%f, Hp⟩, ⟨%g, Ho⟩⟩, Hs⟩
  ihave Hc := hcut $$ Hs
  ihave Hx := (Entails.of_eq (x_rows m ρ c)) $$ Hx
  ihave Hp := (Entails.of_eq (p_rows c f)) $$ Hp
  ihave Ho := (Entails.of_eq (o_rows c g)) $$ Ho
  iapply (show iprop((bigSep Finset.univ fun i => xPts m ρ c i fullShare) ∗ (bigSep Finset.univ fun i => pPts c i fullShare f)
      ∗ (bigSep Finset.univ fun i => oPts c i g)
      ∗ bigSep Finset.univ fun i : Fin 8 => (iprop(((∃ f, sPts (F := F) (dst c (lo i)) (lo i) f) ∗ held c (lo i)) ∗ (∃ f, sPts (F := F) (dst c (hi i)) (hi i) f) ∗ held c (hi i)) : sProp 𝕄))
      ⊢ bigSep Finset.univ fun i => St m ρ 0 c i from by
    rw [← bigSep_sep', ← bigSep_sep', ← bigSep_sep']
    refine bigSep_mono fun i _ => ?_
    simp only [St]
    unfold port held
    refine (show _ ⊢ (_ : sProp 𝕄) from ?_)
    iintro ⟨Hx, Hp, Ho, ⟨Hsl, ⟨Htl, Htl'⟩, Hal, Hpl⟩, Hsh, ⟨Hth, Hth'⟩, Hah, Hph⟩
    isplitl [Hx Hsl Htl Htl']
    · isplitl [Hx]; · iexact Hx
      isplitl [Hsl]; · iexact Hsl
      isplitl [Htl]; · iexact Htl
      iexact Htl'
    isplitl [Hp Hsh Hth Hth' Hal]
    · isplitl [Hp]; · iexists f; iexact Hp
      isplitl [Hsh Hth Hth']
      · isplitl [Hsh]; · iexact Hsh
        isplitl [Hth]; · iexact Hth
        iexact Hth'
      iexact Hal
    isplitl [Ho Hah]
    · isplitl [Ho]; · iexists g; iexact Ho
      iexact Hah
    isplitl [Hpl]; · iexact Hpl
    iexact Hph)
  isplitl [Hx]; · iexact Hx
  isplitl [Hp]; · iexact Hp
  isplitl [Ho]; · iexact Ho
  iexact Hc

/-- The two signals and the wait: each device hands its landing slots to the partner that fills them, and gets theirs. -/
theorem handshake {Q : sProp 𝕄} (n₁ n₂ : Dev nD) (h₁ : n₁ = pa c) (h₂ : n₂ = pb c)
    {k : PUnit → Prog (TpuEff nD τ sig (Elt F) Λ₀ .tc) PUnit} (hk : Inv m ρ K c (fun _ => 0) order ⊢ WP c (k ⟨⟩) Q) :
    entry m ρ K c ⊢ WP c (.op (.semSignal (n₁ : Thread nD τ) barS (1#32).toInt) fun _ => .op (.semSignal (n₂ : Thread nD τ) barS (1#32).toInt) fun _ =>
        .op (.semWait barS (2#32).toInt) k) Q := by
  subst h₁ h₂
  unfold entry startAt scratch
  iintro ⟨⟨#HR, #Hlev, HatB, HtA, HtB, HcB, Hheld⟩, ⟨⟨%f, Hscr⟩, Hp⟩, ⟨%W, HO⟩, Hx, Ho⟩
  ihave ⟨HsA, HsB⟩ := (slots_out c f) $$ Hscr
  ihave #HIa := (rec_inv m ρ K (barK (pa c))) $$ HR
  ihave #HIb := (rec_inv m ρ K (barK (pb c))) $$ HR
  ihave #HIc := (rec_inv m ρ K (barK c)) $$ HR
  ihave #HRa := (rec_reached m ρ K (barK (pa c))) $$ HR
  ihave #HRb := (rec_reached m ρ K (barK (pb c))) $$ HR
  iapply (Rounds.wp_signal 𝒱₀ ER (sched m ρ) (c : Thread nD τ) none (dst := (pa c : Thread nD τ)) (κ := K (barK (pa c)))
      (d := false) (by rw [duties_bar]; exact Finset.mem_univ _) ((amount_bar m ρ (pa c) false).trans (by decide)) () (O₁ c) rfl) $$ [HO HtA HsA]
  · isplitr; · iexact HIa
    isplitl [HO]; · iexact HO
    isplitl [HtA]; · iexact HtA
    isplitl [HsA]; · rw [payload_bar]; iexact HsA
    iexact HRa
  iintro HO
  iapply (Rounds.wp_signal 𝒱₀ ER (sched m ρ) (c : Thread nD τ) none (dst := (pb c : Thread nD τ)) (κ := K (barK (pb c)))
      (d := true) (by rw [duties_bar]; exact Finset.mem_univ _) ((amount_bar m ρ (pb c) true).trans (by decide)) () (owe c order) rfl) $$ [HO HtB HsB]
  · isplitr; · iexact HIb
    isplitl [HO]; · iexact HO
    isplitl [HtB]; · iexact HtB
    isplitl [HsB]; · rw [payload_bar]; iexact HsB
    iexact HRb
  iintro HO
  iapply (Rounds.wp_wait_rest_token 𝒱₀ ER (sched m ρ) (c : Thread nD τ) none (κ := K (barK c))
      (wpE_semWait_eq 𝒱₀ (c : Thread nD τ) none Set.univ) (Set.mem_univ _) () (O := owe c order) (W := W) (R := 0) (m := 0) (T := ∅)
      (by rw [expect_bar]; decide)) $$ [HcB HO HatB]
  · isplitr; · iexact HIc
    isplitl [HcB]; · iexact HcB
    isplitl [HO]; · iexact HO
    isplitr; · iapply (mayWait_owe c (.reg barS) order (fun j _ => by show 1 < _; split <;> decide)) $$ Hlev
    iexact HatB
  iintro ⟨HO, HatB, -, Hpay⟩
  ihave Hs := (Entails.of_eq (rest_bar m ρ c)) $$ Hpay
  iapply hk
  unfold Inv
  isplitr; · iexact HR
  isplitr; · iexact Hlev
  isplitl [HatB]; · iexact HatB
  isplitl [HO]; · iexists _; iexact HO
  iapply (stage_zero m ρ c)
  isplitl [Hx Hp Ho]
  · isplitl [Hx]; · iexact Hx
    isplitl [Hp]; · iexact Hp
    iexact Ho
  isplitl [Hs]; · iexact Hs
  iexact Hheld

/-! ## The chunks, in program order -/

theorem pair_pay (v : S32x256.Idx → Elt F .f32) (v' : S1x32x256.Idx → Elt F .f32) (x : S32x256.Idx) :
    k0_pay1 (F := F) v v' x = FloatOps.addf (F := F) (φ := .f32) (v x) (v' (inSlot x)) := by
  unfold k0_pay1
  simp only [shapeCast_self]
  rfl
theorem out_pay (v : S32x256.Idx → Elt F .f32) (v' : S1x32x256.Idx → Elt F .f32) (x : S32x256.Idx) :
    k0_pay11 (F := F) v v' x = FloatOps.addf (F := F) (φ := .f32) (v x) (v' (inSlot x)) := rfl

/-- The whole body: the handshake, then the chunks' steps, interleaved as the kernel interleaves them. -/
theorem chunks {Q : sProp 𝕄} (hend : Inv m ρ K c (fun _ => 4) [] ⊢ WP c (.ret ⟨⟩) Q) :
    entry m ρ K c ⊢ WP c (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Q := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel k0_part16_skel k0_part17_skel
  simp only [semSignalWord, semWaitWord, Prog.lift, Prog.bind_op, Prog.bind_ret, Prog.pure_eq_ret, wp_deviceId]
  refine handshake m ρ K c _ _ (dev1 c) (dev2 c) ?_
  unfold order
  refine first_send m ρ K c 0 rfl _ _ rfl rfl _ (dev3 c) _ _ (send_sem (lo 0)) (recv_sem (lo 0)) ?_
  refine first_send m ρ K c 1 rfl _ _ rfl rfl _ (dev4 c) _ _ (send_sem (lo 1)) (recv_sem (lo 1)) ?_
  refine first_send m ρ K c 2 rfl _ _ rfl rfl _ (dev5 c) _ _ (send_sem (lo 2)) (recv_sem (lo 2)) ?_
  refine first_send m ρ K c 3 rfl _ _ rfl rfl _ (dev6 c) _ _ (send_sem (lo 3)) (recv_sem (lo 3)) ?_
  refine first_send m ρ K c 4 rfl _ _ rfl rfl _ (dev7 c) _ _ (send_sem (lo 4)) (recv_sem (lo 4)) ?_
  refine first_send m ρ K c 5 rfl _ _ rfl rfl _ (dev8 c) _ _ (send_sem (lo 5)) (recv_sem (lo 5)) ?_
  refine first_send m ρ K c 6 rfl _ _ rfl rfl _ (dev9 c) _ _ (send_sem (lo 6)) (recv_sem (lo 6)) ?_
  refine first_send m ρ K c 7 rfl _ _ rfl rfl _ (dev10 c) _ _ (send_sem (lo 7)) (recv_sem (lo 7)) ?_
  refine pair_send m ρ K c 0 rfl (by decide) _ _ _ rfl rfl rfl _ (dev11 c) _ _ _ (recv_sem (lo 0)) (send_sem (hi 0)) (recv_sem (hi 0))
    (k0_pay1) pair_pay ?_
  refine pair_send m ρ K c 4 rfl (by decide) _ _ _ rfl rfl rfl _ (dev12 c) _ _ _ (recv_sem (lo 4)) (send_sem (hi 4)) (recv_sem (hi 4))
    (k0_pay2) pair_pay ?_
  refine pair_send m ρ K c 1 rfl (by decide) _ _ _ rfl rfl rfl _ (dev13 c) _ _ _ (recv_sem (lo 1)) (send_sem (hi 1)) (recv_sem (hi 1))
    (k0_pay3) pair_pay ?_
  refine pair_send m ρ K c 5 rfl (by decide) _ _ _ rfl rfl rfl _ (dev14 c) _ _ _ (recv_sem (lo 5)) (send_sem (hi 5)) (recv_sem (hi 5))
    (fun v v' => k0_pay6 (k0_pay4 v) (k0_pay5 v')) pair_pay ?_
  refine pair_send m ρ K c 2 rfl (by decide) _ _ _ rfl rfl rfl _ (dev15 c) _ _ _ (recv_sem (lo 2)) (send_sem (hi 2)) (recv_sem (hi 2))
    (k0_pay7) pair_pay ?_
  refine pair_send m ρ K c 6 rfl (by decide) _ _ _ rfl rfl rfl _ (dev16 c) _ _ _ (recv_sem (lo 6)) (send_sem (hi 6)) (recv_sem (hi 6))
    (k0_pay8) pair_pay ?_
  refine pair_send m ρ K c 3 rfl (by decide) _ _ _ rfl rfl rfl _ (dev17 c) _ _ _ (recv_sem (lo 3)) (send_sem (hi 3)) (recv_sem (hi 3))
    (k0_pay9) pair_pay ?_
  refine pair_send m ρ K c 7 rfl (by decide) _ _ _ rfl rfl rfl _ (dev18 c) _ _ _ (recv_sem (lo 7)) (send_sem (hi 7)) (recv_sem (hi 7))
    (k0_pay10) pair_pay ?_
  refine out_store m ρ K c 0 rfl _ _ rfl rfl _ (recv_sem (hi 0)) (k0_pay11) out_pay ?_
  refine out_store m ρ K c 4 rfl _ _ rfl rfl _ (recv_sem (hi 4)) (k0_pay12) out_pay ?_
  refine out_store m ρ K c 1 rfl _ _ rfl rfl _ (recv_sem (hi 1)) (k0_pay13) out_pay ?_
  refine out_store m ρ K c 5 rfl _ _ rfl rfl _ (recv_sem (hi 5)) (k0_pay14) out_pay ?_
  refine out_store m ρ K c 2 rfl _ _ rfl rfl _ (recv_sem (hi 2)) (k0_pay15) out_pay ?_
  refine out_store m ρ K c 6 rfl _ _ rfl rfl _ (recv_sem (hi 6)) (k0_pay16) out_pay ?_
  refine out_store m ρ K c 3 rfl _ _ rfl rfl _ (recv_sem (hi 3)) (k0_pay17) out_pay ?_
  refine out_store m ρ K c 7 rfl _ _ rfl rfl _ (recv_sem (hi 7)) (k0_pay18) out_pay ?_
  refine sends_done m ρ K c 0 rfl _ _ _ rfl rfl rfl _ _ (send_sem (lo 0)) (send_sem (hi 0)) ?_
  refine sends_done m ρ K c 1 rfl _ _ _ rfl rfl rfl _ _ (send_sem (lo 1)) (send_sem (hi 1)) ?_
  refine sends_done m ρ K c 2 rfl _ _ _ rfl rfl rfl _ _ (send_sem (lo 2)) (send_sem (hi 2)) ?_
  refine sends_done m ρ K c 3 rfl _ _ _ rfl rfl rfl _ _ (send_sem (lo 3)) (send_sem (hi 3)) ?_
  refine sends_done m ρ K c 4 rfl _ _ _ rfl rfl rfl _ _ (send_sem (lo 4)) (send_sem (hi 4)) ?_
  refine sends_done m ρ K c 5 rfl _ _ _ rfl rfl rfl _ _ (send_sem (lo 5)) (send_sem (hi 5)) ?_
  refine sends_done m ρ K c 6 rfl _ _ _ rfl rfl rfl _ _ (send_sem (lo 6)) (send_sem (hi 6)) ?_
  refine sends_done m ρ K c 7 rfl _ _ _ rfl rfl rfl _ _ (send_sem (lo 7)) (send_sem (hi 7)) ?_
  exact (Entails.of_eq (congrArg (fun σ => Inv m ρ K c σ []) (funext fun i => by fin_cases i <;> rfl))).trans hend

/-! ## The end of the body -/

/-- A cell past its one round closes at zero. -/
theorem close_cell (ck : Dev nD × CK) : iprop(records m ρ K ∗ atPos ER (kcell ck) 1 ∅ 0) ⊢ |={Set.univ}=> semVal (kcell ck) 0 := by
  iintro ⟨HR, Hat⟩
  ihave #HI := (rec_inv m ρ K ck) $$ HR
  imod (Rounds.cell_close ER (sched m ρ) (Set.mem_univ (K ck)) (fun h => h) (R := 0 + 1) (duties_later m ρ (kcell ck))) $$ [Hat] with Hz
  · isplitr; · iexact HI
    iexact Hat
  imodintro
  iexact Hz

/-- What a finished chunk gives back. -/
def finished (i : Fin 8) : sProp 𝕄 :=
  iprop(xPts m ρ c i fullShare ∗ pPts c i fullShare (pairC m ρ c) ∗ oPts c i (outC m ρ c)
    ∗ (sPts c (lo i) (recvC m ρ c) ∗ sPts c (hi i) (recvC m ρ c))
    ∗ (semVal (sendCell c (lo i)) 0 ∗ semVal (sendCell c (hi i)) 0) ∗ semVal (recvCell c (lo i)) 0 ∗ semVal (recvCell c (hi i)) 0)

theorem finish (i : Fin 8) : iprop(records m ρ K ∗ St m ρ 4 c i) ⊢ |={Set.univ}=> finished m ρ c i := by
  simp only [St]
  unfold arrived finished
  iintro ⟨#HR, Hx, Hp, Ho, ⟨⟨Hsl, Hl⟩, Hsh, Hh⟩, Hl', Hh'⟩
  imod (close_cell m ρ K (recvK c (lo i))) $$ [Hl] with Hl
  · isplitr; · iexact HR
    iexact Hl
  imod (close_cell m ρ K (recvK c (hi i))) $$ [Hh] with Hh
  · isplitr; · iexact HR
    iexact Hh
  imod (close_cell m ρ K (sendK c (lo i))) $$ [Hl'] with Hl'
  · isplitr; · iexact HR
    iexact Hl'
  imod (close_cell m ρ K (sendK c (hi i))) $$ [Hh'] with Hh'
  · isplitr; · iexact HR
    iexact Hh'
  imodintro
  isplitl [Hx]; · iexact Hx
  isplitl [Hp]; · iexact Hp
  isplitl [Ho]; · iexact Ho
  isplitl [Hsl Hsh]
  · isplitl [Hsl] <;> iassumption
  isplitl [Hl' Hh']
  · isplitl [Hl'] <;> iassumption
  isplitl [Hl] <;> iassumption

/-- Every chunk finished: the buffers whole again. -/
theorem all_finished : (bigSep Finset.univ fun i => finished m ρ c i)
    = iprop((((c : Thread nD τ).loc cc0_stg0_0) ↦{fullShare} X m ρ c) ∗ (((c : Thread nD τ).loc cc0_scratch1) ↦{fullShare} pairC m ρ c)
      ∗ (((c : Thread nD τ).loc cc0_stg1_0) ↦{fullShare} outC m ρ c) ∗ (((c : Thread nD τ).loc cc0_scratch0) ↦{fullShare} recvC m ρ c)
      ∗ (bigSep Finset.univ fun j => semVal (sendCell c j) 0) ∗ bigSep Finset.univ fun j => semVal (recvCell c j) 0) := by
  unfold finished
  rw [x_rows, p_rows, o_rows, s_slots,
    by_chunk (fun j => sPts c j (recvC m ρ c)), by_chunk (fun j => (semVal (sendCell c j) 0 : sProp 𝕄)), by_chunk (fun j => (semVal (recvCell c j) 0 : sProp 𝕄)),
    ← bigSep_sep', ← bigSep_sep', ← bigSep_sep', ← bigSep_sep', ← bigSep_sep']

/-- The program over: every semaphore closes. -/
theorem body_end {Q : sProp 𝕄} (hQ : leave m ρ c ⊢ Q) : Inv m ρ K c (fun _ => 4) [] ⊢ WP c (.ret ⟨⟩) Q := by
  unfold Inv
  rw [owe_nil]
  iintro ⟨#HR, -, HatB, HO, Hst⟩
  imod (close_cell m ρ K (barK c)) $$ [HatB] with HzB
  · isplitr; · iexact HR
    iexact HatB
  imod (show iprop(records m ρ K ∗ bigSep Finset.univ fun i => St m ρ 4 c i) ⊢ |={Set.univ}=> bigSep Finset.univ fun i => finished m ρ c i from
      (sep_mono_left (BI.bigSep_of_persistent Finset.univ (records m ρ K))).trans
        (by rw [← bigSep_sep']; exact (bigSep_mono fun i _ => finish m ρ K c i).trans (bigSep_fupd _ _))) $$ [Hst] with Hf
  · isplitr; · iexact HR
    iexact Hst
  ihave ⟨Hx, Hp, Ho, Hs, HzS, HzV⟩ := (Entails.of_eq (all_finished m ρ c)) $$ Hf
  iapply (show leave m ρ c ⊢ WP c (.ret ⟨⟩) Q from by unfold WP; rw [wp_ret]; exact hQ.trans fupd_intro)
  unfold leave scratch zeros
  isplitl [Hp Hs HzB HzS HzV]
  · isplitl [Hp Hs]
    · isplitl [Hs]
      · iexists _; iexact Hs
      iexists _; iexact Hp
    isplitl [HzB]; · iexact HzB
    isplitl [HzS] <;> iassumption
  isplitl [HO]; · iexact HO
  isplitl [Hx] <;> iassumption

/-! ## The library's obligation -/

/-- What device `c` starts from beside its buffers and debts. -/
def start (c : Dev nD) : sProp 𝕄 := iprop(∃ K, startAt m ρ K c)
def Φ₀ (c : Dev nD) : sProp 𝕄 := iprop(start m ρ c ∗ scratch c)
def Φ₁ (c : Dev nD) : sProp 𝕄 := iprop(scratch c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m ρ c
    | ⟨1, _⟩ => outC m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ c ∗ (dats m ρ 0 c).owesAt () t₀.succ ∗ stg c cc0_stg0_0 (X m ρ c) ∗ stg c cc0_stg1_0 (outC m ρ c))

theorem leave_post : leave m ρ c ⊢ bodyPost m ρ c := by
  unfold leave bodyPost Φ₁ Dat.owesAt Pipeline.owesWithin
  rw [show (dats m ρ 0 c).owed t₀.succ = 0 from rfl]
  iintro ⟨H, ⟨%W, HO⟩, Hx, Ho⟩
  isplitl [H]; · iexact H
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

theorem pre_entry : bodyPre m ρ c ⊢ iprop(∃ K, entry m ρ K c) := by
  unfold bodyPre Φ₀ start entry
  iintro ⟨⟨⟨%K, Hst⟩, Hscr⟩, HO, ⟨%d0, %g0, %hg0, Hx⟩, ⟨%d1, %g1, %hg1, Ho⟩⟩
  have hx : g0 = X m ρ c := by rw [hg0]; unfold Dat.before; rw [if_pos (fetch_0 t₀)]; rfl
  subst hx
  unfold Dat.owesAt Pipeline.owesWithin
  icases HO with ⟨%W, %hW, HO⟩
  iexists K
  isplitl [Hst]; · iexact Hst
  isplitl [Hscr]; · iexact Hscr
  isplitl [HO]; · iexists W; iexact HO
  isplitl [Hx]; · iexact Hx
  iexists _; iexact Ho

theorem sound_body (c : Dev nD) : bodyPre m ρ c ⊢ WP c (cc0_body (Memref.whole cc0_stg0_0) (Memref.isWhole_whole _) (Memref.whole cc0_stg1_0)
    (Memref.isWhole_whole _) (Memref.whole cc0_scratch0) (Memref.isWhole_whole _) (Memref.whole cc0_scratch1) (Memref.isWhole_whole _)
    cc0_scratch2 cc0_scratch3) (bodyPost m ρ c) :=
  (pre_entry m ρ c).trans (by
    iintro ⟨%K, H⟩
    iapply (chunks m ρ K c (body_end m ρ K c (leave_post m ρ c)))
    iexact H)

attribute [local irreducible] cc0_body in
set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact sound_body m ρ c

end Cert.AllReduce

end
-- ==== Proof.Launch.lean ====
/-
# The launch

The protocol's ghost state made at launch and dealt to the devices, each getting the duties it pays; the credits each
device's waits spend; and the run of the whole program from any memory with every semaphore at zero.
-/
module

public import proofs.«01_k».proof.Proof.Body
public import Idealize.ShloMosaic.Lib.Pipeline.CollectiveSegs

@[expose] public section

noncomputable section

namespace Cert.AllReduce

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their duties, numbered -/

theorem ownSemFacts : Pipeline.OwnSemFacts cfg0.spec osem := by decide

theorem csem_injective : Function.Injective csem := by decide

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
def protoCells : Finset (GSem nD τ sig) := Finset.univ.map ⟨kcell, kcell_injective⟩

/-- A device's duties: two on its barrier cell, one on every other cell. -/
abbrev TK : Type := Bool ⊕ (Fin 16 ⊕ Fin 16)
abbrev tsem : TK → SemLoc sig × Bool := fun | .inl d => (.reg barS, d) | .inr k => (osem k, false)
abbrev tokOf (ct : Dev nD × TK) : GSem nD τ sig × ℕ × Bool := (((ct.1 : Thread nD τ), (tsem ct.2).1), 0, (tsem ct.2).2)

theorem tsem_injective : Function.Injective tsem := by decide
theorem tokOf_injective : Function.Injective (tokOf : Dev nD × TK → GSem nD τ sig × ℕ × Bool) := by
  rintro ⟨c, t⟩ ⟨c', t'⟩ h
  have h1 : c = c' := congrArg (fun x : GSem nD τ sig × ℕ × Bool => x.1.1.1) h
  have h2 : t = t' := tsem_injective (congrArg (fun x : GSem nD τ sig × ℕ × Bool => (x.1.2, x.2.2)) h)
  rw [h1, h2]
def protoToks : Finset (GSem nD τ sig × ℕ × Bool) := Finset.univ.map ⟨tokOf, tokOf_injective⟩

def u₀ : UU :=
  (initOf (Pipeline.cells cfgs cellOf_inj) (Pipeline.launchToks cfgs cellOf_inj), initOf protoCells protoToks)

omit [FloatOps F] in
theorem bigSep_bool (Φ : Bool → sProp 𝕄) : bigSep Finset.univ Φ = iprop(Φ false ∗ Φ true) :=
  bigSep_univ_eq_bigSepL [false, true] (by decide) (by decide) Φ

omit [FloatOps F] in
/-- What is held of every cell of a device: of its barrier's, of every slot's two. -/
theorem bigSep_CK (Φ : CK → sProp 𝕄) : bigSep Finset.univ Φ
    = iprop(Φ (.inl ()) ∗ (bigSep Finset.univ fun j => Φ (.inr (.inl j))) ∗ bigSep Finset.univ fun j => Φ (.inr (.inr j))) := by
  rw [bigSep_univ_sum, bigSep_univ_sum, bigSep_univ_of_subsingleton ()]
  rfl

/-- The duties on device `c`'s own cells. -/
def toks (c : Dev nD) : sProp 𝕄 :=
  iprop((dutyTok ER (barCell c) 0 false ∗ dutyTok ER (barCell c) 0 true)
    ∗ (bigSep Finset.univ fun j => dutyTok ER (sendCell c j) 0 false) ∗ bigSep Finset.univ fun j => dutyTok ER (recvCell c j) 0 false)

/-- What the launch deals device `c`: the state of its cells, its places in them, their duties. -/
def G (c : Dev nD) : sProp 𝕄 :=
  iprop((bigSep Finset.univ fun k : CK => roundState ER (sched m ρ) (kcell (c, k)) 0)
    ∗ (bigSep Finset.univ fun k : CK => iprop(atPos ER (kcell (c, k)) 0 ∅ 0 ∗ reached ER (kcell (c, k)) 0)) ∗ toks c)

/-- The duties device `c` pays. -/
def payToks (c : Dev nD) : sProp 𝕄 :=
  iprop((dutyTok ER (barCell (pa c)) 0 false ∗ dutyTok ER (barCell (pb c)) 0 true)
    ∗ (bigSep Finset.univ fun j => dutyTok ER (sendCell c j) 0 false) ∗ bigSep Finset.univ fun j => dutyTok ER (recvCell (dst c j) j) 0 false)
/-- What stays with device `c` alone: its places in its cells and the duties it pays. -/
def own (c : Dev nD) : sProp 𝕄 := iprop((bigSep Finset.univ fun k : CK => atPos ER (kcell (c, k)) 0 ∅ 0) ∗ payToks c)
/-- What device `c` has once the cells are shared. -/
def G' (c : Dev nD) : sProp 𝕄 := iprop(∃ K, records m ρ K ∗ own c)

/-! ## From the launch's element to what each device holds -/

theorem fund : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : CK => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum, bigSep_univ_sum, bigSep_bool]; rfl
  iintro HX
  imod (Rounds.fund ER (sched m ρ) protoCells protoToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun j => semVal (sendCell c j) 0) ∗ bigSep Finset.univ fun j => semVal (recvCell c j) 0) := by
  unfold Pipeline.ownSems0; rw [bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨H, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The duties go to the devices that pay them: a barrier's two to its two partners, an arrival's to the device the slot
    is exchanged with. -/
theorem toks_around : (bigSep Finset.univ fun c : Dev nD => (toks c : sProp 𝕄)) ⊢ bigSep Finset.univ fun c : Dev nD => payToks c := by
  have hr : (bigSep Finset.univ fun c : Dev nD => bigSep Finset.univ fun j => (dutyTok ER (recvCell c j) 0 false : sProp 𝕄))
      = bigSep Finset.univ fun c : Dev nD => bigSep Finset.univ fun j => dutyTok ER (recvCell (dst c j) j) 0 false := by
    rw [bigSep_univ_comm, bigSep_univ_comm (fun (c : Dev nD) (j : Fin 16) => (dutyTok ER (recvCell (dst c j) j) 0 false : sProp 𝕄))]
    exact bigSep_congr fun j _ => bigSep_univ_equiv (pairOf j) _
  unfold toks payToks
  rw [bigSep_sep', bigSep_sep', bigSep_sep', bigSep_sep', bigSep_sep', bigSep_sep', hr,
    bigSep_univ_equiv pairA (fun c : Dev nD => (dutyTok ER (barCell c) 0 false : sProp 𝕄)),
    bigSep_univ_equiv pairB (fun c : Dev nD => (dutyTok ER (barCell c) 0 true : sProp 𝕄))]
  exact .rfl

theorem own_intro (K : Dev nD × CK → ℕ) (c : Dev nD) : iprop(records m ρ K ∗ own c) ⊢ G' m ρ c := by
  unfold G'
  iintro H
  iexists K
  iexact H

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (sched m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m ρ) κ (kcell ck) : sProp 𝕄))) $$ HI
  icases HK with ⟨%K, #HI⟩
  ihave Htk := (toks_around (F := F)) $$ Htok
  iapply (show iprop(records m ρ K ∗ bigSep Finset.univ fun c : Dev nD => own c) ⊢ bigSep Finset.univ (G' m ρ) from
    (sep_mono_left (BI.bigSep_of_persistent Finset.univ (records m ρ K))).trans
      (by rw [← bigSep_sep']; exact bigSep_mono fun c _ => own_intro m ρ K c))
  isplitr
  · unfold records; isplitl; · iexact HI
    iexact HR
  unfold own
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits of the waits -/

omit [FloatOps F] in
/-- What the devices owe through the slots `l` is, for each device, the credit of its own arrivals there. -/
theorem creds_slots (c : Dev nD) : ∀ l : List (Fin 16), l.Nodup →
    ((Pipeline.launchCred (fun d => owe d l) c : sProp 𝕄) ⊢ bigSep l.toFinset fun j => cred (tallyAt (recvCell c j) () N))
  | [], _ => by
    rw [List.toFinset_nil, BI.bigSep_empty]
    exact Entails.of_eq (Pipeline.launchCred_zero c)
  | j :: l, h => by
    have hs : bigSep (j :: l).toFinset (fun j => (cred (tallyAt (recvCell c j) () N) : sProp 𝕄))
        = iprop(cred (tallyAt (recvCell c j) () N) ∗ bigSep l.toFinset fun j => cred (tallyAt (recvCell c j) () N)) := by
      rw [List.toFinset_cons, BI.bigSep_insert (fun hj => (List.nodup_cons.mp h).1 (List.mem_toFinset.mp hj))]
      rfl
    rw [hs]
    simp only [owe_cons]
    rw [Pipeline.launchCred_add]
    iintro ⟨Hl, Hj⟩
    isplitl [Hj]
    · iapply (Pipeline.launchCred_tallyAt (.dma (recvS j)) (fun d => dst d j) (fun d => dst d j) (fun d => dst_dst d j) (fun d => dst_dst d j) () N c); iexact Hj
    · iapply (creds_slots c l (List.nodup_cons.mp h).2); iexact Hl

omit [FloatOps F] in
theorem creds (c : Dev nD) :
    (Pipeline.launchCred O₀ c : sProp 𝕄) ⊢ iprop(cred (tallyAt (barCell c) () 2) ∗ bigSep Finset.univ fun j => cred (tallyAt (recvCell c j) () N)) := by
  rw [show (O₀ : Dev nD → CellTallies nD τ sig Unit) = fun d => (fun d => owe d order + tallyAt (barCell (pb d)) () 1) d + tallyAt (barCell (pa d)) () 1 from rfl,
    Pipeline.launchCred_add, Pipeline.launchCred_add]
  iintro ⟨⟨Hl, Hb⟩, Ha⟩
  isplitl [Ha Hb]
  · iapply (show iprop(cred (tallyAt (barCell c) () 1) ∗ cred (tallyAt (barCell c) () 1)) ⊢ (cred (tallyAt (barCell c) () 2) : sProp 𝕄) from by
      rw [show (tallyAt (barCell c) () 2 : CellTallies nD τ sig Unit) = tallyAt (barCell c) () 1 + tallyAt (barCell c) () 1 from (tallyAt_add _ _ 1 1).symm]
      exact (cred_add _ _).2)
    isplitl [Ha]
    · iapply (Pipeline.launchCred_tallyAt (.reg barS) pa pa pa_pa pa_pa () 1 c); iexact Ha
    · iapply (Pipeline.launchCred_tallyAt (.reg barS) pb pb pb_pb pb_pb () 1 c); iexact Hb
  · iapply (show (bigSep order.toFinset fun j => cred (tallyAt (recvCell c j) () N) : sProp 𝕄) ⊢ bigSep Finset.univ fun j => cred (tallyAt (recvCell c j) () N) from
      Entails.of_eq (by rw [show order.toFinset = Finset.univ from by decide]))
    iapply (creds_slots c order (by decide)); iexact Hl

/-! ## The launch theorem's conditions -/

omit [FloatOps F] in
/-- A device's own pieces, put together slot by slot. -/
theorem held_intro (c : Dev nD) :
    iprop(own c ∗ bigSep Finset.univ fun j => cred (tallyAt (recvCell c j) () N))
      ⊢ (iprop((atPos ER (barCell c) 0 ∅ 0 ∗ dutyTok ER (barCell (pa c)) 0 false ∗ dutyTok ER (barCell (pb c)) 0 true)
        ∗ bigSep Finset.univ fun j => held c j) : sProp 𝕄) := by
  unfold own payToks held arrival
  rw [bigSep_CK, bigSep_sep', bigSep_sep', bigSep_sep', bigSep_sep']
  iintro ⟨⟨⟨HB, HS, HV⟩, ⟨Ha, Hb⟩, HtS, HtV⟩, Hc⟩
  isplitl [HB Ha Hb]
  · isplitl [HB]; · iexact HB
    isplitl [Ha] <;> iassumption
  isplitl [HtS HtV]
  · isplitl [HtS] <;> iassumption
  isplitl [Hc HV]
  · isplitl [Hc] <;> iassumption
  iexact HS

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G' startAt
  iintro ⟨-, Hlev, Hcr, -, ⟨%K, HR, Hown⟩⟩
  ihave ⟨H2, HN⟩ := (creds (F := F) c) $$ Hcr
  ihave ⟨⟨HB, Ha, Hb⟩, Hheld⟩ := (held_intro (F := F) c) $$ [Hown HN]
  · isplitl [Hown] <;> iassumption
  imodintro
  isplitl
  · iexists K
    isplitl [HR]; · iexact HR
    isplitl [Hlev]; · iexact Hlev
    isplitl [HB]; · iexact HB
    isplitl [Ha]; · iexact Ha
    isplitl [Hb]; · iexact Hb
    isplitl [H2] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch zeros
  iintro ⟨Hr, HzB, Hz⟩
  isplitl [HzB]; · iexact HzB
  isplitl [Hz] <;> iassumption

theorem share_eq (c : Dev nD) (w : Fin cfg0.W) : (dats m ρ 0 c).share w = fullShare := by unfold Dat.share; split <;> rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with every semaphore at zero: the four devices' programs terminate, every array
    of a window ends at its final contents, and every semaphore ends at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array ends as it began. -/
theorem finalA_x (c : Dev nD) : finalA m ρ c (0 : Fin 2) = m ((c : Thread nD τ).loc main_arg0) :=
  (dats (F := F) m ρ 0 c).arrAt_in (0 : Fin 2) rfl _

end Cert.AllReduce

end
-- ==== Proof.Value.lean ====
/-
# The values

What the run leaves in the result array is, on every device, the sum over the four devices of their input blocks; the
reference's reshaped sum is the same sum, read at the same index.
-/
module

public import proofs.«01_k».proof.Proof.Launch
public import proofs.«01_k».proof.Defs
public import proofs.«01_k».proof.Proof.Gen.ReferenceIdeal
public import proofs.«01_k».proof.Proof.Gen.ReferenceIdeal.Run
public import Idealize.ShloMosaic.Lib.IdealHost
public import Idealize.ShloMosaic.Lib.Pointwise.Reduce
public import Idealize.ShloMosaic.Lib.Layout
public import Idealize.ShloMosaic.Lib.Pipeline.Value

@[expose] public section

noncomputable section

namespace Cert.AllReduce

open Cert.KernelIdeal Cert.KernelIdeal.Gen

open Idealize.ShloMosaic
open Idealize.ShloMosaic.TcCoe
open Idealize.ShloMosaic.ValueIdx
open Idealize.SL.Sem

variable {F : FTy → Type} [FloatOps F]

variable (m : (ℓ : Loc nD τ sig) → Buf (Elt F) ℓ) (ρ : Dev nD → PrngReg)

/-! ## Each window's one block is its whole array -/

/-- The input block read before the body is the device's whole input. -/
theorem X_eq (c : Dev nD) : X m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result array ends holding the body's result. -/
theorem finalA_out (c : Dev nD) : finalA m ρ c (1 : Fin 2) = outC m ρ c := by
  have hz : (fun a => (win0_1.index (0 : Fin 1)) a * main_v1.ty.shape.size a) = fun _ => 0 :=
    funext fun a => by fin_cases a <;> decide
  have hread : (win0_1.blk (0 : Fin 1)).view.read (Elt F) (finalA m ρ c (1 : Fin 2)) = outC m ρ c := by
    have hs := (dats m ρ 0 c).arrAt_succ (1 : Fin 2) (0 : Fin 1)
    rw [if_pos (show (cfg0.win (1 : Fin 2)).flush (0 : Fin 1) = true by decide)] at hs
    exact (congrArg _ hs).trans (View.read_write_univ _ _)
  exact (Memref.read_access_unit_zero (Elt F) main_v1 hz (fun a => by fin_cases a <;> decide) _).symm.trans hread

/-! ## The two exchanges add each device's block once -/

/-- A device, its first partner, its second partner and that one's first partner are the four devices, each once. -/
theorem partners_eq (c : Dev nD) (i : Fin 8) :
    ({c, dst c (lo i), dst c (hi i), dst (dst c (hi i)) (lo i)} : Multiset (Dev nD)) = (Finset.univ : Finset (Dev nD)).val := by
  revert c i; decide

/-- So the two rounds of sums, in whatever chunk, are the sum over the four devices. -/
theorem sum_partners {M : Type} [AddCommMonoid M] (f : Dev nD → M) (c : Dev nD) (i : Fin 8) :
    (f c + f (dst c (lo i))) + (f (dst c (hi i)) + f (dst (dst c (hi i)) (lo i))) = ∑ d : Dev nD, f d := by
  rw [Finset.sum, ← partners_eq c i]
  simp [add_assoc]

/-- Device `d`'s input, as extended reals. -/
def inp (m : (ℓ : Loc nD τ sig) → Buf (Elt Ideal) ℓ) (d : Dev nD) : S256x256.Idx → EReal :=
  m ((d : Thread nD τ).loc main_arg0)

/-- The result of the two exchanges over the extended reals: the sum of the four inputs. -/
theorem outC_apply (m : (ℓ : Loc nD τ sig) → Buf (Elt Ideal) ℓ) (c : Dev nD) (y : S256x256.Idx) :
    outC m ρ c y = ∑ d : Dev nD, inp m d y := by
  have hX (d : Dev nD) : inp m d = X m ρ d := (X_eq m ρ d).symm
  rw [← sum_partners (fun d : Dev nD => inp m d y) c (chunk y)]
  simp only [hX]
  rfl

/-! ## The reference's sum -/

/-- The reference's result, of its whole input. -/
def refOut (x : Cert.ReferenceIdeal.S1024x256.Idx → EReal) : Cert.ReferenceIdeal.S256x256.Idx → EReal :=
  Host.reduceAdd (F := Ideal) (φ := .f32)
    (shapeCast _ x Cert.ReferenceIdeal.Gen.shapeCasts_S1024x256_S4x256x256)
    (constant Cert.ReferenceIdeal.S_ .f32 0x00000000#32)
    Cert.ReferenceIdeal.Gen.reducesTo_S4x256x256_S256x256_d0 Cert.ReferenceIdeal.Gen.h_S_

/-- Its input reshaped to four slabs: slab `k` is block `k` of the rows. -/
theorem slab_apply (x : Cert.ReferenceIdeal.S1024x256.Idx → EReal) (k : Fin 4) (y : S256x256.Idx) (a b : Fin 256)
    (ha : a.val = (y 0).val) (hb : b.val = (y 1).val) :
    shapeCast Cert.ReferenceIdeal.S4x256x256 x Cert.ReferenceIdeal.Gen.shapeCasts_S1024x256_S4x256x256 (Idealize.ShloMosaic.ix3 k a b)
      = (Layout.block ⟨2, ![256, 256]⟩ ⟨2, ![1024, 256]⟩ 0 4 k x : S256x256.Idx → EReal) y := by
  rw [Layout.block_apply]
  refine shapeCast_apply _ _ _ _ ?_
  have h := Layout.idx_rows_val (k := 4) (dS := ![256, 256]) (dT := ![1024, 256]) (by decide) k y
  refine (Shape.rowMajor_val_two _).trans (Eq.trans ?_ (Shape.rowMajor_val_three _).symm)
  rw [h.1, h.2]
  show (k.val * 256 + (y 0).val) * 256 + (y 1).val = (k.val * 256 + a.val) * 256 + b.val
  rw [ha, hb]

/-- The reference's result is the sum of its input's four blocks of rows. -/
theorem refOut_apply (x : Cert.ReferenceIdeal.S1024x256.Idx → EReal) (y : S256x256.Idx) :
    refOut x y = ∑ k : Fin 4, (Layout.block ⟨2, ![256, 256]⟩ ⟨2, ![1024, 256]⟩ 0 4 k x : S256x256.Idx → EReal) y := by
  refine (hostReduceAdd_apply _ _ _ _ _).trans ((Ideal.hostReduceAdd_r3_a0 _ _ _ _).trans ?_)
  rw [show (constant Cert.ReferenceIdeal.S_ .f32 0x00000000#32 : FVec Ideal Cert.ReferenceIdeal.S_ .f32)
    (Shape.Idx.first Cert.ReferenceIdeal.Gen.h_S_) = 0 from Ideal.ofBits_zero_f32, zero_add]
  exact Finset.sum_congr rfl fun k _ => slab_apply x k y _ _ rfl rfl

/-- Where each device's input is its block of the rows of `x`, the kernel's result is the reference's of `x`. -/
theorem outC_eq_refOut (m : (ℓ : Loc nD τ sig) → Buf (Elt Ideal) ℓ) (x : Cert.ReferenceIdeal.S1024x256.Idx → EReal)
    (h : ∀ d : Dev nD, inp m d = Layout.block ⟨2, ![256, 256]⟩ ⟨2, ![1024, 256]⟩ 0 4 d x) (c : Dev nD) :
    outC m ρ c = refOut x :=
  funext fun y => (outC_apply ρ m c y).trans ((Finset.sum_congr rfl fun d _ => congrFun (h d) y).trans (refOut_apply x y).symm)

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent
public import proofs.«01_k».proof.Proof.Value

@[expose] public section

noncomputable section

namespace Cert.Proof

open Idealize.ShloMosaic Idealize.SL.Sem Cert.Kernel

section Same

variable {F : FTy → Type} [FloatOps F]

/-! The kernel and its idealization are one text, so their body tables are equal: a run of one is a run of the other. -/

theorem defs₀_same : Cert.Kernel.defs₀ (F := F) = Cert.KernelIdeal.defs₀ (F := F) := by
  unfold Cert.Kernel.defs₀ Cert.KernelIdeal.defs₀
  refine congrArg _ (funext fun a => funext fun b => ?_)
  match a, b with
  | 0, (t, s) => rfl

theorem defs_same : Cert.Kernel.defs (F := F) = Cert.KernelIdeal.defs (F := F) :=
  congrArg (Pipeline.defs Cert.Kernel.pcfgs) defs₀_same

end Same

/-- The kernel's run, read over bit patterns: it ends, with its inputs as they were and every semaphore at zero. -/
theorem frame_kernel : Cert.quiescent_Kernel := fun m ρ _ => by
  rw [defs_same]
  exact (θ_run Cert.KernelIdeal.defs _ _).mono
    (fun _ h => ⟨fun c => (h.1 c (0 : Fin 2)).trans (Cert.AllReduce.finalA_x m ρ c), h.2⟩)
    (Cert.AllReduce.run_main (F := Bits) m ρ)

/-- The same run, read over the extended reals. -/
theorem frame_kernelIdeal : Cert.quiescent_KernelIdeal := fun m ρ _ =>
  (θ_run Cert.KernelIdeal.defs _ _).mono
    (fun _ h => ⟨fun c => (h.1 c (0 : Fin 2)).trans (Cert.AllReduce.finalA_x m ρ c), h.2⟩)
    (Cert.AllReduce.run_main (F := Ideal) m ρ)

/-- The reference ends with its input as it was; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Every device's result array ends holding the reference's sum. -/
theorem algebraic : Cert.algebraic_KernelIdeal_ReferenceIdeal := fun m ρ m' ρ' _ hagree =>
  ⟨Cert.AllReduce.refOut (m' (((0 : Dev Cert.ReferenceIdeal.nD).tc : Thread _ Cert.ReferenceIdeal.τ).loc Cert.ReferenceIdeal.main_arg0)),
    (θ_run Cert.KernelIdeal.defs _ _).mono
      (fun _ h c => ⟨(h.1 c (1 : Fin 2)).trans ((Cert.AllReduce.finalA_out m ρ c).trans
          (Cert.AllReduce.outC_eq_refOut ρ m _ hagree c)),
        (h.1 c (0 : Fin 2)).trans (Cert.AllReduce.finalA_x m ρ c)⟩)
      (Cert.AllReduce.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
